-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated_finite [hPre_separated_finite : Cert.Pre_separated_finite.Facts] (m : (ℓ : Loc Cert.KernelIdeal.nD Cert.KernelIdeal.τ Cert.KernelIdeal.sig) → Buf (Elt Ideal) ℓ) : Prop :=
  ∀ c : Dev Cert.KernelIdeal.nD,
    (Cert.Pre_separated_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated_finite [hPre_separated_finite : Cert.Pre_separated_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated_finite [hKernelIdeal : Cert.KernelIdeal.Facts] [hPre_separated_finite : Cert.Pre_separated_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated_finite [hReferenceIdeal : Cert.ReferenceIdeal.Facts] [hPre_separated_finite : Cert.Pre_separated_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_separated_finite [hKernelIdeal : Cert.KernelIdeal.Facts] [hReferenceIdeal : Cert.ReferenceIdeal.Facts] [hPre_separated_finite : Cert.Pre_separated_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated_finite : Cert.Pre_separated_finite.Facts),
    quiescent_Kernel (hKernel := hKernel)
    ∧ quiescent_KernelIdeal (hKernelIdeal := hKernelIdeal)
    ∧ quiescent_KernelIdeal_pre_separated_finite (hKernelIdeal := hKernelIdeal) (hPre_separated_finite := hPre_separated_finite)
    ∧ quiescent_ReferenceIdeal (hReferenceIdeal := hReferenceIdeal)
    ∧ quiescent_ReferenceIdeal_pre_separated_finite (hReferenceIdeal := hReferenceIdeal) (hPre_separated_finite := hPre_separated_finite)
    ∧ preserves_Kernel_KernelIdeal
    ∧ algebraic_KernelIdeal_ReferenceIdeal_pre_separated_finite (hKernelIdeal := hKernelIdeal) (hReferenceIdeal := hReferenceIdeal) (hPre_separated_finite := hPre_separated_finite)
-- ==== Pre_separated_finite.lean ====
abbrev S4x4096x2048 : Shape := ⟨3, ![4, 4096, 2048]⟩
abbrev S2048x2048 : Shape := ⟨2, ![2048, 2048]⟩
abbrev S2048x9 : Shape := ⟨2, ![2048, 9]⟩
abbrev S2048x8 : Shape := ⟨2, ![2048, 8]⟩
abbrev S_ : Shape := ⟨0, ![]⟩

class Facts : Prop where
  sliceFits_S2048x2048_S2048x9 : S2048x2048.Slices (fun _ => 0) S2048x9
  slices_S2048x9_S2048x8_0_0 : S2048x9.Slices ![0, 0] S2048x8
  slices_S2048x9_S2048x8_0_1 : S2048x9.Slices ![0, 1] S2048x8
  reducesTo_S2048x8_S_d0_1 : S2048x8.ReducesTo [0, 1] S_
  h_S_ : 0 < S_.numel
  bcast_S_S4x4096x2048 : S_.BroadcastsInDim S4x4096x2048 (![] : Fin 0 → Fin S4x4096x2048.rank)
  reducesTo_S4x4096x2048_S_d0_1_2 : S4x4096x2048.ReducesTo [0, 1, 2] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v14 : FVec F S2048x2048 .f32) (main_v15 : FVec F S2048x2048 .f32) : IVec S_ 1 :=
  let main_v16 : IVec S2048x2048 1 := cmpf .olt main_v14 main_v15
  let main_c_4 : IVec S_ 1 := constantI S_ 1 1#1
  let main_v17 : IVec S_ 1 := (fun x v => Host.reduce IntOp.andi x v reducesTo_S2048x2048_S_d0_1 h_S_) main_v16 main_c_4
  let main_v18 : IVec S_ 1 := andi main_v13 main_v17
  main_v18

def fn {F : FTy → Type} [FloatOps F] (main_arg0 : FVec F S4x4096x2048 .f32) (main_arg1 : FVec F S2048x2048 .f32) (main_arg2 : FVec F S2048x2048 .f32) : IVec S_ 1 :=
  let main_values : FVec F S2048x9 .f32 := (fun x => (Host.topK S2048x9 1 (FloatOps.cmpfTotal .gt) x sliceFits_S2048x2048_S2048x9).1) main_arg1
  let main_indices : IVec S2048x9 32 := (fun x => (Host.topK S2048x9 1 (FloatOps.cmpfTotal .gt) x sliceFits_S2048x2048_S2048x9).2) main_arg1
  let main_v0 : FVec F S2048x8 .f32 := (extractStridedSlice S2048x8 ![0, 0] · slices_S2048x9_S2048x8_0_0) main_values
  let main_v1 : FVec F S2048x8 .f32 := (extractStridedSlice S2048x8 ![0, 1] · slices_S2048x9_S2048x8_0_1) main_values
  let main_v2 : IVec S2048x8 1 := cmpf .ogt main_v0 main_v1
  let main_c : IVec S_ 1 := constantI S_ 1 1#1
  let main_v3 : IVec S_ 1 := (fun x v => Host.reduce IntOp.andi x v reducesTo_S2048x8_S_d0_1 h_S_) main_v2 main_c
  let main_v4 : FVec F S4x4096x2048 .f32 := Host.absf main_arg0
  let main_cst : FVec F S_ .f32 := constant S_ .f32 0x7F800000#32
  let main_v5 : FVec F S4x4096x2048 .f32 := broadcastInDim S4x4096x2048 ![] bcast_S_S4x4096x2048 main_cst
  let main_v6 : IVec S4x4096x2048 1 := cmpf .olt main_v4 main_v5
  let main_c_0 : IVec S_ 1 := constantI S_ 1 1#1
  let main_v7 : IVec S_ 1 := (fun x v => Host.reduce IntOp.andi x v reducesTo_S4x4096x2048_S_d0_1_2 h_S_) main_v6 main_c_0
  let main_v8 : IVec S_ 1 := andi main_v3 main_v7
  let main_v9 : FVec F S2048x2048 .f32 := Host.absf main_arg1
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_c_2 : IVec S_ 1 := constantI S_ 1 1#1
  let main_v12 : IVec S_ 1 := (fun x v => Host.reduce IntOp.andi x v reducesTo_S2048x2048_S_d0_1 h_S_) main_v11 main_c_2
  let main_v13 : IVec S_ 1 := andi main_v8 main_v12
  let main_v14 : FVec F S2048x2048 .f32 := Host.absf main_arg2
  let main_cst_3 : FVec F S_ .f32 := constant S_ .f32 0x7F800000#32
  let main_v15 : FVec F S2048x2048 .f32 := broadcastInDim S2048x2048 ![] bcast_S_S2048x2048 main_cst_3
  fn_part1 (F := F) main_v13 main_v14 main_v15
-- ==== Kernel.lean ====
abbrev S4x4096x2048 : Shape := ⟨3, ![4, 4096, 2048]⟩
abbrev S2048x2048 : Shape := ⟨2, ![2048, 2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S16384x2048 : Shape := ⟨2, ![16384, 2048]⟩
abbrev S512x2048 : Shape := ⟨2, ![512, 2048]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S16384x2048, .f32⟩
  | .hbm, ⟨5, _⟩ => ⟨S16384x2048, .f32⟩
  | .hbm, ⟨6, _⟩ => ⟨S4x4096x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .f32⟩
  | .local _ .vmem, ⟨3, _⟩ => ⟨S1024x2048, .bf16⟩
  | .local _ .vmem, ⟨4, _⟩ => ⟨S1024x2048, .bf16⟩
  | .local _ .vmem, ⟨5, _⟩ => ⟨S2048x2048, .bf16⟩
  | .local _ .vmem, ⟨6, _⟩ => ⟨S1024x2048, .f32⟩
  | .local _ .vmem, ⟨7, _⟩ => ⟨S1024x2048, .f32⟩
  | .local _ .vmem, ⟨8, _⟩ => ⟨S2048x2048, .bf16⟩
  | .local _ .vmem, ⟨9, _⟩ => ⟨S1024x2048, .f32⟩
  | .local _ .vmem, ⟨10, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4x4096x2048 : Shape := ⟨3, ![4, 4096, 2048]⟩
abbrev S2048x2048 : Shape := ⟨2, ![2048, 2048]⟩
abbrev S2048x8 : Shape := ⟨2, ![2048, 8]⟩
abbrev S2048 : Shape := ⟨1, ![2048]⟩
abbrev S2048x1 : Shape := ⟨2, ![2048, 1]⟩
abbrev S_ : Shape := ⟨0, ![]⟩
abbrev S2048x8x1 : Shape := ⟨3, ![2048, 8, 1]⟩
abbrev S2048x8x2 : Shape := ⟨3, ![2048, 8, 2]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S2048x8, .f32⟩
  | .hbm, ⟨4, _⟩ => ⟨S2048x8, .i32⟩
  | .hbm, ⟨5, _⟩ => ⟨S2048, .i32⟩
  | .hbm, ⟨6, _⟩ => ⟨S2048x1, .i32⟩
  | .hbm, ⟨7, _⟩ => ⟨S_, .f32⟩
  | .hbm, ⟨8, _⟩ => ⟨S2048x2048, .f32⟩
  | .hbm, ⟨9, _⟩ => ⟨S_, .i32⟩
  | .hbm, ⟨10, _⟩ => ⟨S2048x1, .i32⟩
  | .hbm, ⟨11, _⟩ => ⟨S2048x1, .i1⟩
  | .hbm, ⟨12, _⟩ => ⟨S_, .i32⟩
  | .hbm, ⟨13, _⟩ => ⟨S2048x1, .i32⟩
  | .hbm, ⟨14, _⟩ => ⟨S2048x1, .i32⟩
  | .hbm, ⟨15, _⟩ => ⟨S2048x1, .i32⟩
  | .hbm, ⟨16, _⟩ => ⟨S_, .i32⟩
  | .hbm, ⟨17, _⟩ => ⟨S2048x8, .i32⟩
  | .hbm, ⟨18, _⟩ => ⟨S2048x8, .i1⟩
  | .hbm, ⟨19, _⟩ => ⟨S_, .i32⟩
  | .hbm, ⟨20, _⟩ => ⟨S2048x8, .i32⟩
  | .hbm, ⟨21, _⟩ => ⟨S2048x8, .i32⟩
  | .hbm, ⟨22, _⟩ => ⟨S2048x8, .i32⟩
  | .hbm, ⟨23, _⟩ => ⟨S2048x8, .i32⟩
  | .hbm, ⟨24, _⟩ => ⟨S2048x8x1, .i32⟩
  | .hbm, ⟨25, _⟩ => ⟨S2048x8x1, .i32⟩
  | .hbm, ⟨26, _⟩ => ⟨S2048x8x2, .i32⟩
  | .hbm, ⟨27, _⟩ => ⟨S_, .f32⟩
  | .hbm, ⟨28, _⟩ => ⟨S2048x8, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S4x4096x2048, .f32⟩
  | .hbm, ⟨46, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.KernelIdeal.Region0.lean ====
/- The first kernel call: what one run of its body does to the staging buffers and to the
   scratch copy of the projection, and the body obligation of its two-point pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One slab of 128 rows, as a single function -/

/-- The greatest entry of each of a slab's rows, as a column. -/
def slabTop (w : FVec F S128x2048 .bf16) : FVec F S128x1 .bf16 :=
  shapeCast S128x1
    (multiReduction .maximumf [1] S128 w 0xFF80#16 reduces_S128x2048_S128 (.inr rfl) rfl)
    shapeCasts_S128_S128x1

/-- One round of the selection: every entry equal to its row's greatest becomes minus infinity. -/
def slabDrop (w : FVec F S128x2048 .bf16) : FVec F S128x2048 .bf16 :=
  select (cmpf .oeq w (broadcastTo S128x2048 (slabTop w) broadcasts_S128x1_S128x2048))
    (broadcast S128x2048 (Scalar.truncf .bf16 bitsLt_bf16_f32 (Scalar.ofBits .f32 0xFF800000#32 : F .f32)))
    w

/-- The slab after the eight rounds. -/
def slabDrop8 (w : FVec F S128x2048 .bf16) : FVec F S128x2048 .bf16 :=
  slabDrop (slabDrop (slabDrop (slabDrop (slabDrop (slabDrop (slabDrop (slabDrop w)))))))

/-- The weights with every entry the eight rounds did not drop replaced by zero. -/
def slabKept (v : Vec F S128x2048 .f32) : Vec F S128x2048 .f32 :=
  select
    (cmpf .oeq (slabDrop8 (truncf .bf16 v bitsLt_bf16_f32))
      (broadcast S128x2048 (Scalar.ofBits .bf16 0xFF80#16 : F .bf16)))
    v (broadcast S128x2048 (Scalar.ofBits .f32 0x00000000#32 : F .f32))

/-- What is subtracted in each row's softmax: the greater of zero and the row's greatest weight. -/
def slabShift (v : Vec F S128x2048 .f32) : FVec F S128x1 .f32 :=
  maximumf (extf .f32 (slabTop (truncf .bf16 v bitsLt_bf16_f32)) bitsLt_bf16_f32)
    (broadcast S128x1 (Scalar.ofBits .f32 0x00000000#32 : F .f32))

/-- The exponentials of the kept weights, shifted. -/
def slabExp (v : Vec F S128x2048 .f32) : FVec F S128x2048 .f32 :=
  exp (subf (slabKept v) (broadcastTo S128x2048 (slabShift v) broadcasts_S128x1_S128x2048))

/-- The rows' softmax. -/
def slabSoft (v : Vec F S128x2048 .f32) : FVec F S128x2048 .f32 :=
  divf (slabExp v)
    (broadcastTo S128x2048
      (shapeCast S128x1
        (multiReduction .add [1] S128 (slabExp v) 0x00000000#32 reduces_S128x2048_S128 (.inl rfl) rfl)
        shapeCasts_S128_S128x1)
      broadcasts_S128x1_S128x2048)

/-- What the body stores for a slab: its softmax times the projection. -/
def slabOut (p : Vec F S2048x2048 .bf16) (v : Vec F S128x2048 .f32) : FVec F S128x2048 .bf16 :=
  truncf .bf16
    (matmul dot_S128x2048_S2048x2048_S128x2048_1_0_0_1_n_n none
      (truncf .bf16 (slabSoft v) bitsLt_bf16_f32) p (constant S128x2048 .f32 0x00000000#32))
    bitsLt_bf16_f32

/-! ## The block the body leaves -/

abbrev rW : Rect S2048x2048 := Rect.unit (s := S2048x2048) ![0, 0] S2048x2048.size inb_S2048x2048_S2048x2048_0_0
abbrev rA0 : Rect S1024x2048 := Rect.unit (s := S1024x2048) ![0, 0] S128x2048.size inb_S1024x2048_S128x2048_0_0
abbrev rA1 : Rect S1024x2048 := Rect.unit (s := S1024x2048) ![128, 0] S128x2048.size inb_S1024x2048_S128x2048_128_0
abbrev rA2 : Rect S1024x2048 := Rect.unit (s := S1024x2048) ![256, 0] S128x2048.size inb_S1024x2048_S128x2048_256_0
abbrev rA3 : Rect S1024x2048 := Rect.unit (s := S1024x2048) ![384, 0] S128x2048.size inb_S1024x2048_S128x2048_384_0
abbrev rA4 : Rect S1024x2048 := Rect.unit (s := S1024x2048) ![512, 0] S128x2048.size inb_S1024x2048_S128x2048_512_0
abbrev rA5 : Rect S1024x2048 := Rect.unit (s := S1024x2048) ![640, 0] S128x2048.size inb_S1024x2048_S128x2048_640_0
abbrev rA6 : Rect S1024x2048 := Rect.unit (s := S1024x2048) ![768, 0] S128x2048.size inb_S1024x2048_S128x2048_768_0
abbrev rA7 : Rect S1024x2048 := Rect.unit (s := S1024x2048) ![896, 0] S128x2048.size inb_S1024x2048_S128x2048_896_0

/-- The eight stores of the body, latest first: slab by slab, `slabOut` of the slab's rows. -/
def blockPieces (p : Vec F S2048x2048 .bf16) (x : Vec F S1024x2048 .f32) : List (View.Piece (Elt F) S1024x2048 .bf16) :=
  [⟨rA7, slabOut p (View.ld x rA7)⟩, ⟨rA6, slabOut p (View.ld x rA6)⟩, ⟨rA5, slabOut p (View.ld x rA5)⟩,
   ⟨rA4, slabOut p (View.ld x rA4)⟩, ⟨rA3, slabOut p (View.ld x rA3)⟩, ⟨rA2, slabOut p (View.ld x rA2)⟩,
   ⟨rA1, slabOut p (View.ld x rA1)⟩, ⟨rA0, slabOut p (View.ld x rA0)⟩]

/-- The block of the product the body leaves, from the projection and the block of weights. -/
def blockOut (p : Vec F S2048x2048 .bf16) (x : Vec F S1024x2048 .f32) : Vec F S1024x2048 .bf16 :=
  View.canon (blockPieces p x)

/-- The eight slabs cover the block. -/
theorem blockCover (p : Vec F S2048x2048 .bf16) (x : Vec F S1024x2048 .f32) (y : S1024x2048.Idx) :
    ∃ pc ∈ blockPieces p x, y ∈ pc.1.set :=
  View.cover_of_tiled (blockPieces p x) S128x2048.size (by rfl) y

/-- The scratch copy of the projection: its entries in the narrower format. -/
def projCopy (w : Vec F S2048x2048 .f32) : Vec F S2048x2048 .bf16 := truncf .bf16 w bitsLt_bf16_f32

/-- The skeleton's payload for the scratch is that copy. -/
theorem pay2_eq (w : Vec F S2048x2048 .f32) : k0_pay2 w = projCopy w := by
  unfold k0_pay2 projCopy
  exact shapeCast_self _ _

theorem rowOff : (![0, 0] : Fin S2048x2048.rank → Nat) = fun _ => 0 := by
  funext a; fin_cases a <;> rfl

/-- One whole store covers the scratch. -/
theorem copyCover (p : Vec F S2048x2048 .bf16) (y : S2048x2048.Idx) :
    ∃ pc ∈ ([⟨rW, p⟩] : List (View.Piece (Elt F) S2048x2048 .bf16)), y ∈ pc.1.set :=
  View.cover_of_tiled [⟨rW, p⟩] S2048x2048.size (by rfl) y

/-! ## The body's branch -/

/-- The body's branch condition: the point is the grid's first. -/
abbrev atFirst (i : grid0.Coords) : Prop :=
  (Scalar.cmpi .ne (Scalar.extui (Scalar.cmpi .eq (BitVec.ofNat 32 (i 0).val) 0#32)) 0#32) = 1#1

/-- It holds exactly at point 0. -/
theorem atFirst_iff : ∀ t : Fin cfg0.N, atFirst (grid0.coords t) ↔ t.val = 0 :=
  (fun t => by
    have ht : t.val < 2 := Nat.lt_of_lt_of_eq t.isLt N_0
    have e0 : (grid0.coords t 0).val = t.val / 1 % 2 := Pipeline.Grid.coords_val t 0 (by decide) rfl
    simp only [atFirst, e0]
    rcases (by omega : t.val = 0 ∨ t.val = 1) with h | h <;> rw [h] <;> decide
   : ∀ t : Fin grid0.N, atFirst (grid0.coords t) ↔ t.val = 0)

/-! ## The body's two triples -/

set_option maxHeartbeats 4000000 in
/-- At the first point the body fills the scratch with the projection's copy and leaves the block computed with it. -/
theorem body_first (c : Dev nD) (E : Set ℕ) (i : grid0.Coords) (arg1 : Memref sig .tc .vmem S1024x2048 .f32) (harg1 : arg1.IsWhole) (arg2 : Memref sig .tc .vmem S2048x2048 .f32) (harg2 : arg2.IsWhole) (arg3 : Memref sig .tc .vmem S1024x2048 .bf16) (harg3 : arg3.IsWhole) (arg4 : Memref sig .tc .vmem S2048x2048 .bf16) (harg4 : arg4.IsWhole) (hc : atFirst i)
    (x0 : Vec F S1024x2048 .f32) (x1 : Vec F S2048x2048 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (blockOut (projCopy x1) x0) ∗ owns (c : Thread nD τ) arg4 fullShare (projCopy x1)) -∗ K ⟨⟩))
      ⊢ wp frame (wpE (defs₀ (F := F)) Variants.none c none) E (cc0__weff_kernel i arg1 harg1 arg2 harg2 arg3 harg3 arg4 harg4) K := by
  simp only [cc0__weff_kernel_eq_skeleton]; unfold cc0__weff_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (blockCover _ _)).trans ?_
    show blockOut _ _ = blockOut _ _
    exact congrArg (fun p => blockOut p _)
      ((View.readCov_unit_zero arg4.view rowOff inb_S2048x2048_S2048x2048_0_0 _).trans
        ((pay2_eq _).trans (congrArg projCopy (View.ld_unit_zero rowOff inb_S2048x2048_S2048x2048_0_0 (View.read (Elt F) arg2.view f1)))))
  iexists _; isplitr
  swap; · iexact H3
  ipureintro
  refine (View.read_writes_eq_canon _ _ _ (copyCover _)).trans ?_
  exact (View.canon_unit_zero rowOff inb_S2048x2048_S2048x2048_0_0 _).trans
    ((pay2_eq _).trans (congrArg projCopy (View.ld_unit_zero rowOff inb_S2048x2048_S2048x2048_0_0 (View.read (Elt F) arg2.view f1))))

set_option maxHeartbeats 4000000 in
/-- At a later point the body reads the scratch as it stands and leaves the block computed with it. -/
theorem body_later (c : Dev nD) (E : Set ℕ) (i : grid0.Coords) (arg1 : Memref sig .tc .vmem S1024x2048 .f32) (harg1 : arg1.IsWhole) (arg2 : Memref sig .tc .vmem S2048x2048 .f32) (harg2 : arg2.IsWhole) (arg3 : Memref sig .tc .vmem S1024x2048 .bf16) (harg3 : arg3.IsWhole) (arg4 : Memref sig .tc .vmem S2048x2048 .bf16) (harg4 : arg4.IsWhole) (hc : ¬ atFirst i)
    (x0 : Vec F S1024x2048 .f32) (x1 : Vec F S2048x2048 .f32) (xs : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (blockOut xs x0) ∗ owns (c : Thread nD τ) arg4 fullShare xs) -∗ K ⟨⟩))
      ⊢ wp frame (wpE (defs₀ (F := F)) Variants.none c none) E (cc0__weff_kernel i arg1 harg1 arg2 harg2 arg3 harg3 arg4 harg4) K := by
  simp only [cc0__weff_kernel_eq_skeleton]; unfold cc0__weff_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%d2, %f2, -, H2⟩, ⟨%f3, %hf3, H3⟩, Hk⟩
  subst hf0 hf1 hf3
  sl_exec (disch := first | sl_exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (blockCover _ _)).trans ?_
    show blockOut _ _ = blockOut _ _
    exact congrArg (fun p => blockOut p _) (View.ld_unit_zero rowOff inb_S2048x2048_S2048x2048_0_0 _)
  iexists f3; isplitr
  · ipureintro; rfl
  iexact H3

section Data

variable (V : (c : Dev nD) → (b : Ref sig .tc) → Buf (Elt F) ((c : Thread nD τ).loc b))

/-! ## The pipeline's data, from the buffers' contents `V` when the call is entered -/

/-- Window `w`'s block at point `t`, off its array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The projection as the body sees it at the first point. -/
def projAt (c : Dev nD) : Vec F S2048x2048 .f32 := blkA V c 1 t0_0

/-- The projection's window stands still: every point sees the first point's block. -/
theorem blkA_proj (c : Dev nD) (t : Fin cfg0.N) : blkA V c 1 t = projAt V c := by
  rcases fin_N0 t with rfl | rfl <;> rfl

/-- The scratch buffer, whole. -/
abbrev scr : Memref sig .tc .vmem S2048x2048 .bf16 := Memref.whole cc0_scratch0

/-- What the invariant holds besides the scratch: the other call's staging buffers and the generator register. -/
def otherA (c : Dev nD) : sProp 𝕄 :=
  iprop(((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))
    ∗ (∃ r, prngReg c r))

/-- The launch's invariant gives the scratch at some contents and the rest, -/
theorem otherA_of (c : Dev nD) :
    (Pipeline.ΦA spec0 c : sProp 𝕄) ⊢ iprop((∃ d, owns (c : Thread nD τ) scr fullShare d) ∗ otherA c) := by
  unfold Pipeline.ΦA otherA; rw [scopedRest0_eq]; simp only [scr, owns_whole]
  iintro ⟨⟨Hs, Hr⟩, Hp⟩
  isplitl [Hs]; · iexact Hs
  isplitl [Hr]; · iexact Hr
  iexact Hp

/-- and takes them back. -/
theorem of_otherA (c : Dev nD) :
    iprop((∃ d, owns (c : Thread nD τ) scr fullShare d) ∗ otherA c) ⊢ (Pipeline.ΦA spec0 c : sProp 𝕄) := by
  unfold Pipeline.ΦA otherA; rw [scopedRest0_eq]; simp only [scr, owns_whole]
  iintro ⟨Hs, Hr, Hp⟩
  isplitl [Hs Hr]
  · isplitl [Hs]; · iexact Hs
    iexact Hr
  iexact Hp

/-- The invariant before position `n`: the launch's at the start, then the scratch at the projection's copy. -/
def PhiA (c : Dev nD) : ℕ → sProp 𝕄
  | 0 => Pipeline.ΦA spec0 c
  | _ + 1 => iprop(owns (c : Thread nD τ) scr fullShare (projCopy (projAt V c)) ∗ otherA c)

/-- The data of the first call's pipeline. -/
def datA (c : Dev nD) : Dat τ (Elt F) Unit ℕ (UR sig nD τ) ℕ cfg0 c where
  A w := V c (Pipeline.arrRef spec0 w)
  after w t := match w with
    | ⟨0, _⟩ => blkA V c 0 t
    | ⟨1, _⟩ => blkA V c 1 t
    | ⟨2, _⟩ => blockOut (projCopy (projAt V c)) (blkA V c 0 t)
  Φ t := PhiA V c t.val
  q _ := fullShare
  owed _ := 0

theorem datA_A (c : Dev nD) (w : Fin cfg0.W) : (datA V c).A w = V c (Pipeline.arrRef spec0 w) := by
  dsimp only [datA]
theorem datA_after0 (c : Dev nD) (t : Fin cfg0.N) : (datA V c).after 0 t = blkA V c 0 t := by dsimp only [datA]
theorem datA_after1 (c : Dev nD) (t : Fin cfg0.N) : (datA V c).after 1 t = blkA V c 1 t := by dsimp only [datA]
theorem datA_after2 (c : Dev nD) (t : Fin cfg0.N) :
    (datA V c).after 2 t = blockOut (projCopy (projAt V c)) (blkA V c 0 t) := by dsimp only [datA]

/-- The weights' staging buffer holds their block at every point. -/
theorem datA_before0 (c : Dev nD) (t : Fin cfg0.N) (d) : (datA V c).before 0 t d = blkA V c 0 t :=
  ((datA V c).before_in_eq_fetched 0 rfl (fun _ => rfl) (fun _ _ _ => rfl)
    (fun t => by rw [datA_after0]; unfold Dat.blockOf blkA; rw [datA_A]) t d).trans
    (by unfold Dat.fetched Dat.blockOf blkA; rw [datA_A]; rfl)
/-- So does the projection's. -/
theorem datA_before1 (c : Dev nD) (t : Fin cfg0.N) (d) : (datA V c).before 1 t d = blkA V c 1 t :=
  ((datA V c).before_in_eq_fetched 1 rfl (fun _ => rfl) (fun _ _ _ => rfl)
    (fun t => by rw [datA_after1]; unfold Dat.blockOf blkA; rw [datA_A]) t d).trans
    (by unfold Dat.fetched Dat.blockOf blkA; rw [datA_A]; rfl)

/-! ## The body obligation -/

/-- What the body is called with at point `t`, -/
def preA (c : Dev nD) (t : Fin cfg0.N) : sProp 𝕄 :=
  iprop((datA V c).Φ t.castSucc ∗ (datA V c).owesAt () t.castSucc
    ∗ (∃ d, owns (c : Thread nD τ) (st0_0 t) fullShare ((datA V c).before 0 t d))
    ∗ (∃ d, owns (c : Thread nD τ) (st0_1 t) fullShare ((datA V c).before 1 t d))
    ∗ (∃ d, owns (c : Thread nD τ) (st0_2 t) fullShare ((datA V c).before 2 t d)))

/-- and what it returns. -/
def postA (c : Dev nD) (t : Fin cfg0.N) : sProp 𝕄 :=
  iprop((datA V c).Φ t.succ ∗ (datA V c).owesAt () t.succ
    ∗ owns (c : Thread nD τ) (st0_0 t) fullShare ((datA V c).after 0 t)
    ∗ owns (c : Thread nD τ) (st0_1 t) fullShare ((datA V c).after 1 t)
    ∗ owns (c : Thread nD τ) (st0_2 t) fullShare ((datA V c).after 2 t))

set_option maxHeartbeats 3200000 in
/-- The body at any point of the grid. -/
theorem soundA (c : Dev nD) (t : Fin cfg0.N) :
    preA V c t ⊢ wp frame (wpE (defs₀ (F := F)) Variants.none c none) Set.univ (bodyAt0 t) (fun _ => postA V c t) := by
  unfold preA postA bodyAt0
  simp only [datA_before0, datA_before1]
  rw [show (datA V c).owesAt () t.succ = (datA V c).owesAt () t.castSucc from rfl,
    datA_after0, datA_after1, datA_after2, blkA_proj,
    show (datA V c).Φ t.succ = iprop(owns (c : Thread nD τ) scr fullShare (projCopy (projAt V c)) ∗ otherA c) from rfl,
    show (datA V c).Φ t.castSucc = PhiA V c t.val from rfl]
  by_cases hz : t.val = 0
  · rw [hz, show PhiA V c 0 = Pipeline.ΦA spec0 c from rfl]
    iintro ⟨HΦ, Ho, ⟨%d0, H0⟩, ⟨%d1, H1⟩, ⟨%d2, H2⟩⟩
    ihave HΦ := (otherA_of (F := F) c) $$ HΦ
    icases HΦ with ⟨HS, Hr⟩
    iapply (body_first c Set.univ (grid0.coords t) _ _ _ _ _ _ _ _ ((atFirst_iff t).mpr hz) (blkA V c 0 t) (projAt V c) _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · obtain ⟨n, hn⟩ := Nat.exists_eq_succ_of_ne_zero hz
    rw [hn, show PhiA V c (Nat.succ n) = iprop(owns (c : Thread nD τ) scr fullShare (projCopy (projAt V c)) ∗ otherA c) from rfl]
    iintro ⟨⟨HS, Hr⟩, Ho, ⟨%d0, H0⟩, ⟨%d1, H1⟩, ⟨%d2, H2⟩⟩
    iapply (body_later c Set.univ (grid0.coords t) _ _ _ _ _ _ _ _ (fun h => hz ((atFirst_iff t).mp h)) (blkA V c 0 t) (projAt V c) (projCopy (projAt V c)) _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2

/-- The body table's row at point `t` is the body at that point's buffers. -/
theorem rowA (t : Fin cfg0.N) :
    defs₀ (F := F) .tc cfg0.body (cfg0.bodyArgs t (cfg0.slots t)) = bodyAt0 t := by
  unfold defs₀; rw [Defs.onTc_tc]

/-- The pipeline's body obligation. -/
theorem obligationA (c : Dev nD) : BodyObligation (datA (F := F) V c) (defs₀ (F := F)) Variants.none () Set.univ := fun t => by
  rw [bigSep_W0, bigSep_W0, rowA]
  exact triple_restated (soundA V c t) rfl .rfl fun _ => .rfl

/-- The invariant before the first point is the launch's, -/
theorem PhiA_start (c : Dev nD) : (datA V c).Φ 0 = Pipeline.ΦA spec0 c := rfl

/-- and after the last point it gives the launch's back. -/
theorem PhiA_end (c : Dev nD) : (datA V c).Φ (Fin.last cfg0.N) ⊢ Pipeline.ΦA spec0 c := by
  rw [show (datA V c).Φ (Fin.last cfg0.N) = PhiA V c cfg0.N from rfl, show cfg0.N = 1 + 1 from N_0,
    show PhiA V c (1 + 1) = iprop(owns (c : Thread nD τ) scr fullShare (projCopy (projAt V c)) ∗ otherA c) from rfl]
  refine .trans ?_ (of_otherA c)
  iintro ⟨HS, Hr⟩
  isplitl [HS]; · iexists _; iexact HS
  iexact Hr

end Data

end Cert.KernelIdeal.Own

end
-- ==== Proof.KernelIdeal.Region1.lean ====
/- The second kernel call: what one run of its body does to the staging buffers, and the body
   obligation of its sixteen-point pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block the body leaves -/

/-- Half a block of rows times the matrix. -/
def halfMul (w : Vec F S2048x2048 .bf16) (x : Vec F S512x2048 .f32) : FVec F S512x2048 .f32 :=
  matmul dot_S512x2048_S2048x2048_S512x2048_1_0_0_1_n_n none (truncf .bf16 x bitsLt_bf16_f32) w
    (constant S512x2048 .f32 0x00000000#32)

abbrev rM : Rect S2048x2048 := Rect.unit (s := S2048x2048) ![0, 0] S2048x2048.size inb_S2048x2048_S2048x2048_0_0
abbrev rB0 : Rect S1024x2048 := Rect.unit (s := S1024x2048) ![0, 0] S512x2048.size inb_S1024x2048_S512x2048_0_0
abbrev rB1 : Rect S1024x2048 := Rect.unit (s := S1024x2048) ![512, 0] S512x2048.size inb_S1024x2048_S512x2048_512_0

/-- The two stores of the body, latest first. -/
def mulPieces (w : Vec F S2048x2048 .bf16) (x : Vec F S1024x2048 .f32) : List (View.Piece (Elt F) S1024x2048 .f32) :=
  [⟨rB1, halfMul w (View.ld x rB1)⟩, ⟨rB0, halfMul w (View.ld x rB0)⟩]

/-- The block of the result the body leaves. -/
def mulOut (w : Vec F S2048x2048 .bf16) (x : Vec F S1024x2048 .f32) : Vec F S1024x2048 .f32 :=
  View.canon (mulPieces w x)

/-- The two halves cover the block, whatever is stored in them. -/
theorem mulCover (p q : Vec F S512x2048 .f32) (y : S1024x2048.Idx) :
    ∃ pc ∈ ([⟨rB1, p⟩, ⟨rB0, q⟩] : List (View.Piece (Elt F) S1024x2048 .f32)), y ∈ pc.1.set :=
  View.cover_of_tiled [⟨rB1, p⟩, ⟨rB0, q⟩] S512x2048.size (by rfl) y

/-- The two payloads of the skeleton are `halfMul`: the casts to the same shape change nothing. -/
theorem pay_lo (w : Vec F S2048x2048 .bf16) (x : Vec F S512x2048 .f32) : k1_pay2 w x = halfMul w x := by
  unfold k1_pay2 k1_pay1 halfMul
  simp only [shapeCast_self]
theorem pay_hi (w : Vec F S2048x2048 .bf16) (x : Vec F S512x2048 .f32) : k1_pay3 w x = halfMul w x := by
  unfold k1_pay3 k1_pay1 halfMul
  simp only [shapeCast_self]

theorem matOff : (![0, 0] : Fin S2048x2048.rank → Nat) = fun _ => 0 := by
  funext a; fin_cases a <;> rfl

/-- The canon of the skeleton's payloads is `mulOut`. -/
theorem mul_pieces_eq (w : Vec F S2048x2048 .bf16) (x : Vec F S1024x2048 .f32) :
    View.canon ([⟨rB1, k1_pay3 (View.ld w rM) (View.ld x rB1)⟩, ⟨rB0, k1_pay2 (View.ld w rM) (View.ld x rB0)⟩] :
      List (View.Piece (Elt F) S1024x2048 .f32)) = mulOut w x := by
  unfold mulOut mulPieces
  have e : View.ld w rM = w := View.ld_unit_zero matOff inb_S2048x2048_S2048x2048_0_0 w
  have h1 : k1_pay3 (View.ld w rM) (View.ld x rB1) = halfMul w (View.ld x rB1) :=
    (pay_hi _ _).trans (congrArg (fun p => halfMul p _) e)
  have h0 : k1_pay2 (View.ld w rM) (View.ld x rB0) = halfMul w (View.ld x rB0) :=
    (pay_lo _ _).trans (congrArg (fun p => halfMul p _) e)
  rw [h1, h0]

/-! ## The body's triple -/

set_option maxHeartbeats 1000000 in
/-- The body leaves its rows times the matrix, in two halves. -/
theorem body_mul (c : Dev nD) (E : Set ℕ) (i : grid1.Coords) (arg1 : Memref sig .tc .vmem S1024x2048 .f32) (harg1 : arg1.IsWhole) (arg2 : Memref sig .tc .vmem S2048x2048 .bf16) (harg2 : arg2.IsWhole) (arg3 : Memref sig .tc .vmem S1024x2048 .f32) (harg3 : arg3.IsWhole)
    (x0 : Vec F S1024x2048 .f32) (x1 : Vec F S2048x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mulOut x1 x0)) -∗ K ⟨⟩))
      ⊢ wp frame (wpE (defs₀ (F := F)) Variants.none c none) E (cc1__mm_kernel i arg1 harg1 arg2 harg2 arg3 harg3) K := by
  simp only [cc1__mm_kernel_eq_skeleton]; unfold cc1__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (mulCover _ _)).trans ?_
  exact mul_pieces_eq (View.read (Elt F) arg2.view f1) (View.read (Elt F) arg1.view f0)

section Data

variable (V : (c : Dev nD) → (b : Ref sig .tc) → Buf (Elt F) ((c : Thread nD τ).loc b))

/-! ## The pipeline's data, from the buffers' contents `V` when the call is entered -/

/-- Window `w`'s block at point `t`, off its array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The data of the second call's pipeline. -/
def datB (c : Dev nD) : Dat τ (Elt F) Unit ℕ (UR sig nD τ) ℕ cfg1 c where
  A w := V c (Pipeline.arrRef spec1 w)
  after w t := match w with
    | ⟨0, _⟩ => blkB V c 0 t
    | ⟨1, _⟩ => blkB V c 1 t
    | ⟨2, _⟩ => mulOut (blkB V c 1 t) (blkB V c 0 t)
  Φ _ := Pipeline.ΦA spec1 c
  q _ := fullShare
  owed _ := 0

theorem datB_A (c : Dev nD) (w : Fin cfg1.W) : (datB V c).A w = V c (Pipeline.arrRef spec1 w) := by
  dsimp only [datB]
theorem datB_after0 (c : Dev nD) (t : Fin cfg1.N) : (datB V c).after 0 t = blkB V c 0 t := by dsimp only [datB]
theorem datB_after1 (c : Dev nD) (t : Fin cfg1.N) : (datB V c).after 1 t = blkB V c 1 t := by dsimp only [datB]
theorem datB_after2 (c : Dev nD) (t : Fin cfg1.N) :
    (datB V c).after 2 t = mulOut (blkB V c 1 t) (blkB V c 0 t) := by dsimp only [datB]

/-- The rows' staging buffer holds their block at every point. -/
theorem datB_before0 (c : Dev nD) (t : Fin cfg1.N) (d) : (datB V c).before 0 t d = blkB V c 0 t :=
  ((datB V c).before_in_eq_fetched 0 rfl (fun _ => rfl) (fun _ _ _ => rfl)
    (fun t => by rw [datB_after0]; unfold Dat.blockOf blkB; rw [datB_A]) t d).trans
    (by unfold Dat.fetched Dat.blockOf blkB; rw [datB_A]; rfl)
/-- So does the matrix's. -/
theorem datB_before1 (c : Dev nD) (t : Fin cfg1.N) (d) : (datB V c).before 1 t d = blkB V c 1 t :=
  ((datB V c).before_in_eq_fetched 1 rfl (fun _ => rfl) (fun _ _ _ => rfl)
    (fun t => by rw [datB_after1]; unfold Dat.blockOf blkB; rw [datB_A]) t d).trans
    (by unfold Dat.fetched Dat.blockOf blkB; rw [datB_A]; rfl)

/-! ## The body obligation -/

/-- What the body is called with at point `t`, -/
def preB (c : Dev nD) (t : Fin cfg1.N) : sProp 𝕄 :=
  iprop((datB V c).Φ t.castSucc ∗ (datB V c).owesAt () t.castSucc
    ∗ (∃ d, owns (c : Thread nD τ) (st1_0 t) fullShare ((datB V c).before 0 t d))
    ∗ (∃ d, owns (c : Thread nD τ) (st1_1 t) fullShare ((datB V c).before 1 t d))
    ∗ (∃ d, owns (c : Thread nD τ) (st1_2 t) fullShare ((datB V c).before 2 t d)))

/-- and what it returns. -/
def postB (c : Dev nD) (t : Fin cfg1.N) : sProp 𝕄 :=
  iprop((datB V c).Φ t.succ ∗ (datB V c).owesAt () t.succ
    ∗ owns (c : Thread nD τ) (st1_0 t) fullShare ((datB V c).after 0 t)
    ∗ owns (c : Thread nD τ) (st1_1 t) fullShare ((datB V c).after 1 t)
    ∗ owns (c : Thread nD τ) (st1_2 t) fullShare ((datB V c).after 2 t))

/-- The body at any point of the grid. -/
theorem soundB (c : Dev nD) (t : Fin cfg1.N) :
    preB V c t ⊢ wp frame (wpE (defs₀ (F := F)) Variants.none c none) Set.univ (bodyAt1 t) (fun _ => postB V c t) := by
  unfold preB postB bodyAt1
  simp only [datB_before0, datB_before1]
  rw [show (datB V c).owesAt () t.succ = (datB V c).owesAt () t.castSucc from rfl,
    show (datB V c).Φ t.succ = (datB V c).Φ t.castSucc from rfl,
    datB_after0, datB_after1, datB_after2]
  iintro ⟨HΦ, Ho, ⟨%d0, H0⟩, ⟨%d1, H1⟩, ⟨%d2, H2⟩⟩
  iapply (body_mul c Set.univ (grid1.coords t) _ _ _ _ _ _ (blkB V c 0 t) (blkB V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t` is the body at that point's buffers. -/
theorem rowB (t : Fin cfg1.N) :
    defs₀ (F := F) .tc cfg1.body (cfg1.bodyArgs t (cfg1.slots t)) = bodyAt1 t := by
  unfold defs₀; rw [Defs.onTc_tc]

/-- The pipeline's body obligation. -/
theorem obligationB (c : Dev nD) : BodyObligation (datB (F := F) V c) (defs₀ (F := F)) Variants.none () Set.univ := fun t => by
  rw [bigSep_W1, bigSep_W1, rowB]
  exact triple_restated (soundB V c t) rfl .rfl fun _ => .rfl

end Data

end Cert.KernelIdeal.Own

end
-- ==== Proof.KernelIdeal.Launch.lean ====
/- The whole launch: the buffers' contents at each boundary between host stretches and kernel calls,
   and the run of the program from any memory, its arguments kept and its result named. -/
module

public import proofs.«01_k».proof.Proof.KernelIdeal.Region0
public import proofs.«01_k».proof.Proof.KernelIdeal.Region1
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- The buffers as launched. -/
abbrev B0 : Dev nD → Valuation τ sig (Elt F) := fun c b => (s₀ m ρ).mem ((c : Dev nD), b)

/-! ### After call 0 -/

abbrev C0 : (c : Dev nD) → (b : Ref sig .tc) → Buf (Elt F) ((c : Thread nD τ).loc b) := fun c b => B0 m ρ c b
/-- The buffers after call 0: its arrays as its pipeline leaves them, the others as before. -/
def B1 (c : Dev nD) : Valuation τ sig (Elt F) :=
  Pipeline.withArrays spec0 c (B0 m ρ c) fun w => (datA (C0 m ρ) c).arrAt w cfg0.N
theorem B1_arr (c : Dev nD) (w : Fin cfg0.W) :
    B1 m ρ c (Proc.devRef .tc (Pipeline.arrRef spec0 w)) = (datA (C0 m ρ) c).arrAt w cfg0.N := by
  unfold B1; exact Pipeline.withArrays_arr spec0 launch0.win.arr_inj c _ _ w
theorem B1_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
theorem B1_rest (c : Dev nD) : ∀ b, b ∉ Finset.univ.image (Pipeline.arrRef spec0) →
    B1 m ρ c (Proc.devRef .tc b) = B0 m ρ c (Proc.devRef .tc b) :=
  fun b hb => B1_ne m ρ c b fun w e => hb (Finset.mem_image.mpr ⟨w, Finset.mem_univ _, e⟩)
/-- A buffer the call does not write is as before it. -/
theorem B1_of (c : Dev nD) (r : Ref sig .tc) (h : ∀ w : Fin cfg0.W, Pipeline.arrRef spec0 w = r → (cfg0.win w).isOut = false) :
    B1 m ρ c (Proc.devRef .tc r) = B0 m ρ c (Proc.devRef .tc r) := by
  by_cases hw : ∃ w : Fin cfg0.W, Pipeline.arrRef spec0 w = r
  · obtain ⟨w, rfl⟩ := hw
    exact (B1_arr m ρ c w).trans (((datA (C0 m ρ) c).arrAt_in w (h w rfl) _).trans (datA_A (C0 m ρ) c w))
  · exact B1_ne m ρ c r fun w e => hw ⟨w, e⟩
abbrev C1 : (c : Dev nD) → (b : Ref sig .tc) → Buf (Elt F) ((c : Thread nD τ).loc b) := fun c b => B1 m ρ c b

/-! ### After host stretch 1 -/

theorem host1_fresh : (hostOps1 : List (HloOp τ sig (Elt F))).Forall fun op => op.fresh = ∅ := by
  simp only [List.Forall]; repeat' constructor
theorem host1_writes : (hostOps1 : List (HloOp τ sig (Elt F))).Forall fun op => op.writes ⊆ (([main_v1] : List (Ref sig .tc)).map (Proc.devRef (τ := τ) .tc)).toFinset :=
  StableHlo.forall_writes_sub_of_map rfl

/-- The buffers after the stretch. -/
abbrev B2 : Dev nD → Valuation τ sig (Elt F) := fun c => StableHlo.after hostOps1 (B1 m ρ c)
/-- Every buffer but `main_v1` is as before the stretch. -/
theorem B2_of (c : Dev nD) (r : Ref sig .tc) (h : r ≠ main_v1) : B2 m ρ c (Proc.devRef .tc r) = B1 m ρ c (Proc.devRef .tc r) :=
  StableHlo.after_of_writes_sub hostOps1 _ host1_writes (by simpa using h)

/-! ### After call 1 -/

abbrev C2 : (c : Dev nD) → (b : Ref sig .tc) → Buf (Elt F) ((c : Thread nD τ).loc b) := fun c b => B2 m ρ c b
/-- The buffers after call 1: its arrays as its pipeline leaves them, the others as before. -/
def B3 (c : Dev nD) : Valuation τ sig (Elt F) :=
  Pipeline.withArrays spec1 c (B2 m ρ c) fun w => (datB (C2 m ρ) c).arrAt w cfg1.N
theorem B3_arr (c : Dev nD) (w : Fin cfg1.W) :
    B3 m ρ c (Proc.devRef .tc (Pipeline.arrRef spec1 w)) = (datB (C2 m ρ) c).arrAt w cfg1.N := by
  unfold B3; exact Pipeline.withArrays_arr spec1 launch1.win.arr_inj c _ _ w
theorem B3_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
theorem B3_rest (c : Dev nD) : ∀ b, b ∉ Finset.univ.image (Pipeline.arrRef spec1) →
    B3 m ρ c (Proc.devRef .tc b) = B2 m ρ c (Proc.devRef .tc b) :=
  fun b hb => B3_ne m ρ c b fun w e => hb (Finset.mem_image.mpr ⟨w, Finset.mem_univ _, e⟩)
/-- A buffer the call does not write is as before it. -/
theorem B3_of (c : Dev nD) (r : Ref sig .tc) (h : ∀ w : Fin cfg1.W, Pipeline.arrRef spec1 w = r → (cfg1.win w).isOut = false) :
    B3 m ρ c (Proc.devRef .tc r) = B2 m ρ c (Proc.devRef .tc r) := by
  by_cases hw : ∃ w : Fin cfg1.W, Pipeline.arrRef spec1 w = r
  · obtain ⟨w, rfl⟩ := hw
    exact (B3_arr m ρ c w).trans (((datB (C2 m ρ) c).arrAt_in w (h w rfl) _).trans (datB_A (C2 m ρ) c w))
  · exact B3_ne m ρ c r fun w e => hw ⟨w, e⟩
abbrev C3 : (c : Dev nD) → (b : Ref sig .tc) → Buf (Elt F) ((c : Thread nD τ).loc b) := fun c b => B3 m ρ c b

/-! ### After host stretch 2 -/

theorem host2_fresh : (hostOps2 : List (HloOp τ sig (Elt F))).Forall fun op => op.fresh = ∅ := by
  simp only [List.Forall]; repeat' constructor
theorem host2_writes : (hostOps2 : List (HloOp τ sig (Elt F))).Forall fun op => op.writes ⊆ (([main_v3] : List (Ref sig .tc)).map (Proc.devRef (τ := τ) .tc)).toFinset :=
  StableHlo.forall_writes_sub_of_map rfl

/-- The buffers after the stretch. -/
abbrev B4 : Dev nD → Valuation τ sig (Elt F) := fun c => StableHlo.after hostOps2 (B3 m ρ c)
/-- Every buffer but `main_v3` is as before the stretch. -/
theorem B4_of (c : Dev nD) (r : Ref sig .tc) (h : r ≠ main_v3) : B4 m ρ c (Proc.devRef .tc r) = B3 m ρ c (Proc.devRef .tc r) :=
  StableHlo.after_of_writes_sub hostOps2 _ host2_writes (by simpa using h)

/-! ### The arguments end as launched -/

abbrev argRefs : List (Ref sig .tc) := [main_arg0, main_arg1, main_arg2]
theorem args_host : ∀ a ∈ argRefs, a ≠ main_v1 ∧ a ≠ main_v3 := by decide
theorem args_call0 : ∀ a ∈ argRefs, ∀ w : Fin cfg0.W, Pipeline.arrRef spec0 w = a → (cfg0.win w).isOut = false :=
  ListAll.forall_mem_of_all_decide (by decide +kernel)
theorem args_call1 : ∀ a ∈ argRefs, ∀ w : Fin cfg1.W, Pipeline.arrRef spec1 w = a → (cfg1.win w).isOut = false :=
  ListAll.forall_mem_of_all_decide (by decide +kernel)

/-- Before the second call's host stretch an argument is as launched, -/
theorem B1_args (c : Dev nD) : ∀ a ∈ argRefs, B1 m ρ c (Proc.devRef .tc a) = m ((c : Thread nD τ).loc a) :=
  fun a ha => B1_of m ρ c a (args_call0 a ha)
/-- and at the end too. -/
theorem B4_args (c : Dev nD) : ∀ a ∈ argRefs, B4 m ρ c (Proc.devRef .tc a) = m ((c : Thread nD τ).loc a) :=
  fun a ha => (B4_of m ρ c a (args_host a ha).2).trans ((B3_of m ρ c a (args_call1 a ha)).trans
    ((B2_of m ρ c a (args_host a ha).1).trans (B1_args m ρ c a ha)))

/-! ## The segments -/

abbrev adm : (p : Fin 2) → (pcfgs (F := F) p).Adm := fun p => (cfgs p).toPCfg_adm
/-- The two pipelines' data, each from the contents its call is entered with. -/
def pdats : (p : Fin 2) → (c : Dev nD) → Dat τ (Elt F) Unit ℕ (UR sig nD τ) ℕ (Pipeline.pin (pcfgs (F := F)) adm p) c
  | ⟨0, _⟩ => fun c => datA (C0 m ρ) c
  | ⟨1, _⟩ => fun c => datB (C2 m ρ) c
abbrev 𝒱₀ : Variants := Variants.none
abbrev L : GSem nD τ sig → Finset Unit := fun _ => ∅
abbrev lv : GSem nD τ sig → Unit → ℕ := fun _ _ => 0
/-- What a core keeps between segments besides its buffers. -/
abbrev R (c : Dev nD) : sProp 𝕄 := iprop((∃ r, prngReg c r) ∗ ∃ W, owes (c : Thread nD τ) (0 : CellTallies nD τ sig Unit) W)
/-- A host stretch as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core ends with. -/
abbrev Tend (c : Dev nD) : sProp 𝕄 := iprop(StableHlo.held (c : Thread nD τ) (Pipeline.ucRefs τ sig) (B4 m ρ c) ∗ ∃ r, prngReg c r)

-- the library's segment lemmas are stated over the pinned configuration, which unification must unfold
set_option backward.isDefEq.respectTransparency.types false in
/-- Call 0 as a segment of the launch: entered holding the unscoped buffers at `B0`, left holding them at `B1`. -/
def seg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligationA (C0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (C0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (C0 m ρ c) (datA_A (C0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (PhiA_end (C0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (C0 m ρ c) (C1 m ρ c) ((pdats m ρ 0 c).arrAt · cfg0.N) (fun w => (B1_arr m ρ c w).symm) (B1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's segment lemmas are stated over the pinned configuration, which unification must unfold
set_option backward.isDefEq.respectTransparency.types false in
/-- Call 1 as a segment of the launch: entered holding the unscoped buffers at `B2`, left holding them at `B3`. -/
def seg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligationB (C2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (C2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (C2 m ρ c) (datB_A (C2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from .rfl) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (C2 m ρ c) (C3 m ρ c) ((pdats m ρ 1 c).arrAt · cfg1.N) (fun w => (B3_arr m ρ c w).symm) (B3_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- @main's segments, in order. -/
abbrev segs : List (Pipeline.Seg (pcfgs (F := F)) adm (pdats m ρ) () defs₀ 𝒱₀ L lv) :=
  [ .region (seg0 m ρ),
    .host (hostSeg hostOps1 hostOps1_sub host1_fresh (B1 m ρ)),
    .region (seg1 m ρ),
    .host (hostSeg hostOps2 hostOps2_sub host2_fresh (B3 m ρ)) ]
theorem main_run (c : Dev nD) : main (F := F) c = Pipeline.Seg.run (segs m ρ) := (main_chain c).trans (by chain_rfl)

theorem no_unscoped : ∀ sm : SemLoc sig, sm.isScoped .tc = true := by decide

-- unifying the library's launch theorem with this statement unfolds plain definitions in a metavariable's type
set_option backward.isDefEq.respectTransparency.types false in
/-- From any memory with zero counters the launch terminates, every unscoped buffer of every core at its last
    boundary's contents and every semaphore counter at zero. -/
theorem run_ends : θ_run defs (onTc (τ := τ) (main (F := F))) ⟨m, fun _ => 0, ρ⟩ (fun r =>
      (∀ c : Dev nD, ∀ b ∈ Pipeline.ucRefs τ sig, r.2.mem (((c : Thread nD τ)).1, b) = B4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tend m ρ)
    (hch := ⟨fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h hz => ⟨h, funext fun g => hz g (.inr (no_unscoped g.2))⟩)

/-- The launch keeps the three arguments and ends with every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (B4_args m ρ c main_arg0 (by decide)),
       (h.1 c _ (mem_uc main_arg1 (by decide))).trans (B4_args m ρ c main_arg1 (by decide)),
       (h.1 c _ (mem_uc main_arg2 (by decide))).trans (B4_args m ρ c main_arg2 (by decide))⟩, h.2⟩) (run_ends m ρ)

/-- The launch's result: the buffer it returns ends at its last boundary's contents. -/
theorem result_all : θ_run defs (onTc (τ := τ) (main (F := F))) ⟨m, fun _ => 0, ρ⟩ (fun r => ∀ c : Dev nD,
      r.2.mem ((c.tc : Thread nD τ).loc main_v3) = B4 m ρ c (Proc.devRef .tc main_v3)) :=
  (θ_run defs _ _).mono (fun r h c => h.1 c _ (mem_uc main_v3 (by decide))) (run_ends m ρ)

end Cert.KernelIdeal.Own

end
-- ==== Proof.Math.Rank.lean ====
/- A row's eight rounds of dropping its greatest entry, against the row's order: pure mathematics over the
   extended reals, no program named. -/
module

public import Idealize.ShloMosaic.PureOps.Ideal
public import Idealize.ShloMosaic.Lib.SortFacts
public import Mathlib.Data.EReal.Inv

@[expose] public section

noncomputable section

namespace Cert.Own

open Idealize.ShloMosaic

variable {n : Nat}

/-- A row's greatest entry. -/
def rowTop (w : Fin n → EReal) : EReal := Finset.univ.sup w

/-- One round: every entry equal to the row's greatest becomes minus infinity. -/
def rowDrop (w : Fin n → EReal) : Fin n → EReal := fun i => if w i = rowTop w then ⊥ else w i

/-- The entries that eight rounds turn into minus infinity, every other one replaced by zero. -/
def rowKept (w : Fin n → EReal) : Fin n → EReal := fun i => if rowDrop^[8] w i = ⊥ then w i else 0

/-- The shift: the greater of the row's greatest entry and zero. -/
def rowShift (w : Fin n → EReal) : EReal := max (rowTop w) 0

/-- The shifted exponentials of the kept row. -/
def rowExp (w : Fin n → EReal) : Fin n → EReal := fun i => Ideal.exp (rowKept w i - rowShift w)

/-- The softmax of the kept row. -/
def rowSoft (w : Fin n → EReal) : Fin n → EReal := fun i => Ideal.div (rowExp w i) (∑ k, rowExp w k)

/-- What is asked of a row `w` with its places listed by `p` in decreasing order of entry: `p` lists every place
    once, in order, the first nine entries are distinct, and no entry is infinite. -/
structure Ranked (w : Fin n → EReal) (p : Fin n → Fin n) : Prop where
  inj : Function.Injective p
  surj : Function.Surjective p
  mono : ∀ i j, i < j → w (p j) ≤ w (p i)
  strict : ∀ i j : Fin n, i.val < 8 → j.val = i.val + 1 → w (p j) < w (p i)
  bot : ∀ i, w i ≠ ⊥
  top : ∀ i, w i ≠ ⊤
  nine : 8 < n

namespace Ranked

variable {w : Fin n → EReal} {p : Fin n → Fin n} (h : Ranked w p)
include h

/-- The order of the entries, places possibly equal. -/
theorem le (i j : Fin n) (hij : i ≤ j) : w (p j) ≤ w (p i) := by
  rcases lt_or_eq_of_le hij with hlt | rfl
  · exact h.mono i j hlt
  · exact le_rfl

/-- After `k` rounds, at most eight, exactly the first `k` listed places hold minus infinity. -/
theorem drops (k : Nat) (hk : k ≤ 8) (j : Fin n) :
    rowDrop^[k] w (p j) = if j.val < k then ⊥ else w (p j) := by
  induction k generalizing j with
  | zero => simp
  | succ k ih =>
    have ih' := ih (by omega)
    have hn := h.nine
    have htop : rowTop (rowDrop^[k] w) = w (p ⟨k, by omega⟩) := by
      apply le_antisymm
      · refine Finset.sup_le fun i _ => ?_
        obtain ⟨j, rfl⟩ := h.surj i
        rw [ih' j]
        split
        · exact bot_le
        · next hj => exact h.le _ _ (by rw [Fin.le_def]; simp only; omega)
      · have e := ih' ⟨k, by omega⟩
        rw [if_neg (lt_irrefl _)] at e
        exact e ▸ Finset.le_sup (f := rowDrop^[k] w) (Finset.mem_univ _)
    rw [Function.iterate_succ_apply']
    show (if rowDrop^[k] w (p j) = rowTop (rowDrop^[k] w) then ⊥ else rowDrop^[k] w (p j)) = _
    rw [htop, ih' j]
    by_cases hj : j.val < k
    · rw [if_pos hj, if_pos (show j.val < k + 1 by omega), ite_self]
    · rw [if_neg hj]
      by_cases hk' : j.val = k
      · have ej : (⟨k, by omega⟩ : Fin n) = j := Fin.ext hk'.symm
        rw [ej, if_pos rfl, if_pos (show j.val < k + 1 by omega)]
      · rw [if_neg (c := j.val < k + 1) (by omega), if_neg]
        refine ne_of_lt (lt_of_le_of_lt (h.le ⟨k + 1, by omega⟩ j (by rw [Fin.le_def]; simp only; omega)) ?_)
        exact h.strict ⟨k, by omega⟩ ⟨k + 1, by omega⟩ (by simp only; omega) rfl

/-- The kept row: the first eight listed places keep their entries, the others hold zero. -/
theorem kept (j : Fin n) : rowKept w (p j) = if j.val < 8 then w (p j) else 0 := by
  unfold rowKept
  rw [h.drops 8 le_rfl j]
  by_cases hj : j.val < 8
  · rw [if_pos hj, if_pos rfl, if_pos hj]
  · rw [if_neg hj, if_neg (h.bot _), if_neg hj]

/-- The shift is the kept row's greatest entry: zero is among its entries, and so is the row's greatest. -/
theorem shift : rowShift w = rowTop (rowKept w) := by
  have hn := h.nine
  have htop : rowTop w = w (p ⟨0, by omega⟩) := by
    apply le_antisymm
    · refine Finset.sup_le fun i _ => ?_
      obtain ⟨j, rfl⟩ := h.surj i
      exact h.le _ _ (by rw [Fin.le_def]; exact Nat.zero_le _)
    · exact Finset.le_sup (f := w) (Finset.mem_univ _)
  apply le_antisymm
  · refine max_le ?_ ?_
    · have e := h.kept ⟨0, by omega⟩
      rw [if_pos (by norm_num)] at e
      rw [htop, ← e]
      exact Finset.le_sup (f := rowKept w) (Finset.mem_univ _)
    · have e := h.kept ⟨8, hn⟩
      rw [if_neg (lt_irrefl _)] at e
      rw [← e]
      exact Finset.le_sup (f := rowKept w) (Finset.mem_univ _)
  · refine Finset.sup_le fun i _ => ?_
    unfold rowKept
    split
    · exact le_max_of_le_left (Finset.le_sup (f := w) (Finset.mem_univ _))
    · exact le_max_right _ _

/-- Every entry of the softmax is a real number. -/
theorem soft_real : ∃ s : Fin n → ℝ, ∀ i, rowSoft w i = (s i : EReal) := by
  have hn := h.nine
  have hk : ∀ i, ∃ r : ℝ, rowKept w i = (r : EReal) := fun i => by
    unfold rowKept
    split
    · exact ⟨_, (EReal.coe_toReal (h.top i) (h.bot i)).symm⟩
    · exact ⟨0, rfl⟩
  choose kr hkr using hk
  obtain ⟨s, hs⟩ : ∃ s : ℝ, rowShift w = (s : EReal) := by
    rw [h.shift]
    obtain ⟨i, -, hi⟩ := Finset.exists_mem_eq_sup Finset.univ ⟨⟨0, by omega⟩, Finset.mem_univ _⟩ (rowKept w)
    exact ⟨kr i, by unfold rowTop; rw [hi, hkr]⟩
  have he : ∀ i, rowExp w i = ((Real.exp (kr i - s) : ℝ) : EReal) := fun i => by
    unfold rowExp
    rw [hkr, hs, ← EReal.coe_sub]
    rfl
  have hsum : (∑ k, rowExp w k) = ((∑ k, Real.exp (kr k - s) : ℝ) : EReal) := by
    rw [Finset.sum_congr rfl fun i _ => he i]
    exact (map_sum (⟨⟨Real.toEReal, rfl⟩, EReal.coe_add⟩ : ℝ →+ EReal) (fun k => Real.exp (kr k - s)) Finset.univ).symm
  have hpos : 0 < ∑ k, Real.exp (kr k - s) :=
    Finset.sum_pos (fun i _ => Real.exp_pos _) ⟨⟨0, by omega⟩, Finset.mem_univ _⟩
  refine ⟨fun i => Real.exp (kr i - s) * (∑ k, Real.exp (kr k - s))⁻¹, fun i => ?_⟩
  unfold rowSoft Ideal.div
  rw [hsum, if_neg (by rw [EReal.coe_eq_zero]; exact hpos.ne'), he, ← EReal.coe_inv, ← EReal.coe_mul]

end Ranked

/-- Two products in a row of finite numbers associate: summing over the middle index first or last is the same. -/
theorem sum_swap {a b : Nat} (x : Fin a → ℝ) (s : Fin a → Fin b → ℝ) (q : Fin b → ℝ) :
    ∑ k, (∑ i, (x i : EReal) * (s i k : EReal)) * (q k : EReal)
      = ∑ i, (x i : EReal) * ∑ k, (s i k : EReal) * (q k : EReal) := by
  have hc : ∀ {m : Nat} (f : Fin m → ℝ), (∑ k, (f k : EReal)) = ((∑ k, f k : ℝ) : EReal) := fun f =>
    (map_sum (⟨⟨Real.toEReal, rfl⟩, EReal.coe_add⟩ : ℝ →+ EReal) f Finset.univ).symm
  simp only [← EReal.coe_mul, hc]
  refine congrArg _ ?_
  simp only [Finset.sum_mul, Finset.mul_sum]
  rw [Finset.sum_comm]
  exact Finset.sum_congr rfl fun i _ => Finset.sum_congr rfl fun k _ => by ring

end Cert.Own

end
-- ==== Proof.Math.Order.lean ====
/- The order in which a stable top-k lists a row of a square matrix of extended reals. -/
module

public import proofs.«01_k».proof.Proof.Math.Rank
public import Idealize.ShloMosaic.Lib.ValueIdx
public import Idealize.ShloMosaic.Lib.Pipeline.Value
public import Idealize.ShloMosaic.PureOps.Ideal.Laws

@[expose] public section

noncomputable section

namespace Cert.Own

open Idealize.ShloMosaic Idealize.ShloMosaic.ValueIdx

/-- The places of a list of entries in the order a stable sort by "greater" lists them. -/
def listOrder {n : Nat} (f : Fin n → EReal) : Fin n → Fin n :=
  sortedFrom fun k k' => (FloatOps.cmpfTotal (F := Ideal) (φ := .f32) .gt (f k) (f k')) == 1#1

/-- "Greater" as the sort asks it is the order of the extended reals. -/
theorem gt_iff (x y : EReal) : ((FloatOps.cmpfTotal (F := Ideal) (φ := .f32) .gt x y) == 1#1) = decide (y < x) := by
  show (BitVec.ofBool (decide (y < x)) == 1#1) = decide (y < x)
  by_cases h : y < x <;> simp [h]

/-- The listing is decreasing. -/
theorem listOrder_mono {n : Nat} (f : Fin n → EReal) (i j : Fin n) (hij : i < j) :
    f (listOrder f j) ≤ f (listOrder f i) := by
  have e : listOrder f = sortedFrom fun k k' => decide (f k' < f k) := by
    unfold listOrder; simp only [gt_iff]
  rw [e]
  have h := sortedFrom_noInversion (fun k k' => decide (f k' < f k)) (fun k k' => decide (f k' < f k))
    (fun x y => by simp only [decide_eq_true_eq, decide_eq_false_iff_not, not_lt]; exact le_of_lt)
    (fun x y => id)
    (fun x y z => by
      simp only [decide_eq_false_iff_not, not_lt]
      exact fun h1 h2 => h1.trans h2) i j hij
  simpa only [decide_eq_false_iff_not, not_lt] using h

variable {n m : Nat}

/-- A matrix index moved along its columns. -/
theorem along_col (r : Fin n) (c k : Fin m) :
    (ix2 r c : (⟨2, ![n, m]⟩ : Shape).Idx).along (1 : Fin 2) k = ix2 r k := by
  funext b
  match b with
  | ⟨0, _⟩ => rfl
  | ⟨1, _⟩ => rfl

/-- A place of a slice that starts at the origin. -/
theorem slice_origin {α : Type} {K : Nat} (hK : K ≤ m) (x : (⟨2, ![n, m]⟩ : Shape).Idx → α)
    (h : (⟨2, ![n, m]⟩ : Shape).Slices (fun _ => 0) ⟨2, ![n, K]⟩) (r : Fin n) (j : Fin K) :
    extractStridedSlice ⟨2, ![n, K]⟩ (fun _ => 0) x h (ix2 r j) = x (ix2 r ⟨j.val, by omega⟩) := by
  refine congrArg x (funext fun b => Fin.ext ?_)
  match b with
  | ⟨0, _⟩ => exact Nat.zero_add _
  | ⟨1, _⟩ => exact Nat.zero_add _

/-- A stable sort of the rows, the places carried along: both results at a place. -/
theorem sort2_row (a : (⟨2, ![n, m]⟩ : Shape).Idx → EReal) (y : (⟨2, ![n, m]⟩ : Shape).Idx → BitVec 32)
    (r : Fin n) (c : Fin m) :
    (Host.sort2 ⟨2, ![n, m]⟩ 1 (fun p q => FloatOps.cmpfTotal (F := Ideal) (φ := .f32) .gt p.1 q.1) a y).1 (ix2 r c)
        = a (ix2 r (listOrder (fun k => a (ix2 r k)) c))
      ∧ (Host.sort2 ⟨2, ![n, m]⟩ 1 (fun p q => FloatOps.cmpfTotal (F := Ideal) (φ := .f32) .gt p.1 q.1) a y).2 (ix2 r c)
        = y (ix2 r (listOrder (fun k => a (ix2 r k)) c)) := by
  have e : (sortedFrom fun k k' : Fin m => (FloatOps.cmpfTotal (F := Ideal) (φ := .f32) .gt
      (a ((ix2 r c : (⟨2, ![n, m]⟩ : Shape).Idx).along (1 : Fin 2) k))
      (a ((ix2 r c : (⟨2, ![n, m]⟩ : Shape).Idx).along (1 : Fin 2) k'))) == 1#1) = listOrder (fun k => a (ix2 r k)) := by
    unfold listOrder
    refine congrArg sortedFrom (funext fun k => funext fun k' => ?_)
    rw [along_col, along_col]
  unfold Host.sort2
  rw [dif_pos (show 1 < (⟨2, ![n, m]⟩ : Shape).rank from Nat.one_lt_two)]
  constructor
  · exact congrArg a ((congrArg (fun π : Fin m → Fin m => (ix2 r c : (⟨2, ![n, m]⟩ : Shape).Idx).along (1 : Fin 2) (π c)) e).trans
      (along_col r c _))
  · exact congrArg y ((congrArg (fun π : Fin m → Fin m => (ix2 r c : (⟨2, ![n, m]⟩ : Shape).Idx).along (1 : Fin 2) (π c)) e).trans
      (along_col r c _))

/-- The values of a top-k of the rows: the row's entries at the first places its order lists. -/
theorem topK_value {K : Nat} (hK : K ≤ m) (a : (⟨2, ![n, m]⟩ : Shape).Idx → EReal)
    (h : (⟨2, ![n, m]⟩ : Shape).Slices (fun _ => 0) ⟨2, ![n, K]⟩) (r : Fin n) (j : Fin K) :
    (Host.topK ⟨2, ![n, K]⟩ 1 (FloatOps.cmpfTotal (F := Ideal) (φ := .f32) .gt) a h).1 (ix2 r j)
      = a (ix2 r (listOrder (fun k => a (ix2 r k)) ⟨j.val, by omega⟩)) := by
  unfold Host.topK
  dsimp only
  rw [slice_origin hK]
  exact (sort2_row a _ r _).1

/-- The indices of a top-k of the rows: those places themselves, as words. -/
theorem topK_index {K : Nat} (hK : K ≤ m) (a : (⟨2, ![n, m]⟩ : Shape).Idx → EReal)
    (h : (⟨2, ![n, m]⟩ : Shape).Slices (fun _ => 0) ⟨2, ![n, K]⟩) (r : Fin n) (j : Fin K) :
    (Host.topK ⟨2, ![n, K]⟩ 1 (FloatOps.cmpfTotal (F := Ideal) (φ := .f32) .gt) a h).2 (ix2 r j)
      = BitVec.ofNat 32 (listOrder (fun k => a (ix2 r k)) ⟨j.val, by omega⟩).val := by
  unfold Host.topK
  dsimp only
  rw [slice_origin hK]
  exact (sort2_row a _ r _).2

end Cert.Own

end
-- ==== Proof.Math.Given.lean ====
/- What the precondition says of the arguments, element by element. -/
module

public import proofs.«01_k».proof.Pre_separated_finite
public import proofs.«01_k».proof.Proof.Gen.Pre_separated_finite
public import proofs.«01_k».proof.Proof.Math.Order
public import Idealize.ShloMosaic.Lib.ReduceAll
public import Idealize.ShloMosaic.Lib.StableHlo.Predicate

@[expose] public section

noncomputable section

namespace Cert.Own

open Idealize.ShloMosaic Idealize.ShloMosaic.ValueIdx
open Cert.Pre_separated_finite

/-- A conjunction of two one-bit words is one only when both are. -/
theorem and_one {s : Shape} {x y : IVec s 1} {i : s.Idx} (h : andi x y i = 1#1) : x i = 1#1 ∧ y i = 1#1 :=
  IntOp.andi_eq_one.1 h

/-- A comparison "greater" of extended reals that is one. -/
theorem ogt_one {x y : EReal} (h : FloatOps.cmpf (F := Ideal) (φ := .f32) .ogt x y = 1#1) : y < x := by
  have h' : BitVec.ofBool (decide (y < x)) = 1#1 := h
  by_contra hc
  simp [hc] at h'

/-- A comparison "less" of extended reals that is one. -/
theorem olt_one {x y : EReal} (h : FloatOps.cmpf (F := Ideal) (φ := .f32) .olt x y = 1#1) : x < y := by
  have h' : BitVec.ofBool (decide (x < y)) = 1#1 := h
  by_contra hc
  simp [hc] at h'

/-- The pattern of plus infinity. -/
theorem inf_f32 : Ideal.ofBits .f32 0x7F800000#32 = ⊤ := by
  simp [Ideal.ofBits, Ideal.ieee]

/-- The pattern of minus infinity. -/
theorem ninf_f32 : Ideal.ofBits .f32 0xFF800000#32 = ⊥ := by
  simp [Ideal.ofBits, Ideal.ieee]

/-- The pattern of minus infinity in the narrower format. -/
theorem ninf_bf16 : Ideal.ofBits .bf16 0xFF80#16 = ⊥ := by
  simp [Ideal.ofBits, Ideal.ieee]

/-- An element whose absolute value is below plus infinity is finite. -/
theorem finite_of_abs {x : EReal} (h : FloatOps.cmpf (F := Ideal) (φ := .f32) .olt (FloatOps.absf (F := Ideal) (φ := .f32) x)
    (FloatOps.ofBits .f32 0x7F800000#32) = 1#1) : x ≠ ⊥ ∧ x ≠ ⊤ := by
  have h1 : max x (-x) < ⊤ := by
    have := olt_one h
    rwa [show (FloatOps.ofBits (F := Ideal) .f32 0x7F800000#32) = ⊤ from inf_f32] at this
  constructor
  · rintro rfl
    simp at h1
  · rintro rfl
    simp at h1

/-- A finite extended real is a real number. -/
theorem real_of_finite {x : EReal} (h : x ≠ ⊥ ∧ x ≠ ⊤) : ∃ r : ℝ, x = (r : EReal) :=
  ⟨_, (EReal.coe_toReal h.2 h.1).symm⟩

/-- The decreasing listing of a finite row whose first nine listed entries are strictly decreasing. -/
theorem ranked_listOrder {n : Nat} (w : Fin n → EReal) (hn : 8 < n) (hw : ∀ k, w k ≠ ⊥ ∧ w k ≠ ⊤)
    (hs : ∀ i j : Fin n, i.val < 8 → j.val = i.val + 1 → w (listOrder w j) < w (listOrder w i)) :
    Ranked w (listOrder w) where
  inj := sortedFrom_injective _
  surj := sortedFrom_surjective _
  mono := listOrder_mono _
  strict := hs
  bot k := (hw k).1
  top k := (hw k).2
  nine := hn

/-- What the precondition says of the arguments. -/
structure Given (x : (⟨3, ![4, 4096, 2048]⟩ : Shape).Idx → EReal) (a p : (⟨2, ![2048, 2048]⟩ : Shape).Idx → EReal) : Prop where
  ranked : ∀ r : Fin 2048, Ranked (fun k => a (ix2 r k)) (listOrder fun k => a (ix2 r k))
  left : ∀ i, x i ≠ ⊥ ∧ x i ≠ ⊤
  right : ∀ i, p i ≠ ⊥ ∧ p i ≠ ⊤

instance : Subsingleton S_.Idx := ⟨fun _ _ => funext fun b => b.elim0⟩

/-- The first eight of the nine leaders, at a place. -/
theorem leaders_left (v : FVec Ideal S2048x9 .f32) (r : Fin 2048) (j : Fin 8) :
    extractStridedSlice S2048x8 ![0, 0] v Gen.slices_S2048x9_S2048x8_0_0 (ix2 r j) = v (ix2 r ⟨j.val, by omega⟩) := by
  refine congrArg v (funext fun b => Fin.ext ?_)
  match b with
  | ⟨0, _⟩ => exact Nat.zero_add _
  | ⟨1, _⟩ => exact Nat.zero_add _

/-- The last eight of the nine leaders, at a place. -/
theorem leaders_right (v : FVec Ideal S2048x9 .f32) (r : Fin 2048) (j : Fin 8) :
    extractStridedSlice S2048x8 ![0, 1] v Gen.slices_S2048x9_S2048x8_0_1 (ix2 r j) = v (ix2 r ⟨j.val + 1, by omega⟩) := by
  refine congrArg v (funext fun b => Fin.ext ?_)
  match b with
  | ⟨0, _⟩ => exact Nat.zero_add _
  | ⟨1, _⟩ => exact Nat.add_comm 1 _

/-- The precondition, decoded. -/
theorem given_of_pre (x : FVec Ideal S4x4096x2048 .f32) (a p : FVec Ideal S2048x2048 .f32)
    (h : fn (F := Ideal) x a p = fun _ => 1#1) : Given x a p := by
  have h0 := congrFun h ix0
  unfold fn fn_part1 at h0
  dsimp only at h0
  obtain ⟨h1, hp⟩ := and_one h0
  obtain ⟨h2, ha⟩ := and_one h1
  obtain ⟨hs, hx⟩ := and_one h2
  have hs' := fun i => ogt_one (Host.reduce_andi_all _ _ _ _ _ hs i)
  have hx' := fun i => finite_of_abs (Host.reduce_andi_all _ _ _ _ _ hx i)
  have ha' := fun i => finite_of_abs (Host.reduce_andi_all _ _ _ _ _ ha i)
  have hp' := fun i => finite_of_abs (Host.reduce_andi_all _ _ _ _ _ hp i)
  refine ⟨fun r => ranked_listOrder (n := 2048) _ (by omega) (fun k => ha' _) ?_, hx', hp'⟩
  intro i j hi hj
  have e := hs' (ix2 r (⟨i.val, hi⟩ : Fin 8))
  rw [leaders_left, leaders_right] at e
  have e1 := topK_value (n := 2048) (m := 2048) (K := 9) (by omega) a Gen.sliceFits_S2048x2048_S2048x9 r ⟨i.val, by omega⟩
  have e2 := topK_value (n := 2048) (m := 2048) (K := 9) (by omega) a Gen.sliceFits_S2048x2048_S2048x9 r ⟨i.val + 1, by omega⟩
  have ej : (⟨i.val + 1, by omega⟩ : Fin 2048) = j := Fin.ext hj.symm
  rw [ej] at e2
  rw [← e1, ← e2]
  exact e

end Cert.Own

end
-- ==== Proof.Value.Slab.lean ====
/- What the two bodies compute, element by element: a slab's rows are the softmax of their kept weights times the
   projection; a half's rows are their products with the matrix. -/
module

public import proofs.«01_k».proof.Proof.KernelIdeal.Launch
public import proofs.«01_k».proof.Proof.Math.Given
public import Idealize.ShloMosaic.Lib.MatmulPlain
public import Idealize.ShloMosaic.Lib.ValueIdx
public import Idealize.ShloMosaic.Lib.IdealHost

@[expose] public section

noncomputable section

namespace Cert.Own

open Idealize.ShloMosaic Idealize.ShloMosaic.ValueIdx
open Cert.KernelIdeal Cert.KernelIdeal.Gen Cert.KernelIdeal.Own

/-- Row `r` of a matrix. -/
abbrev row {n m : Nat} (a : (⟨2, ![n, m]⟩ : Shape).Idx → EReal) (r : Fin n) : Fin m → EReal := fun k => a (ix2 r k)

/-- A fold of `max` from minus infinity is the greatest entry. -/
theorem top_of_fold {n : Nat} (z : EReal) (hz : z = ⊥) (f g : Fin n → EReal) (h : ∀ k, f k = g k) :
    Finset.univ.fold max z f = rowTop g := by
  subst hz
  rw [show f = g from funext h]
  rfl

/-- The index a slab's row reduction reads at a coordinate of the dropped axis. -/
theorem lift_slab (h : S128x2048.Reduces [1] S128) (r : Fin 128) (k : Fin 2048) : h.lift (ix1 r) k = ix2 r k :=
  funext fun q => Fin.ext (by match q with | ⟨0, _⟩ => rfl | ⟨1, _⟩ => rfl)

/-- A vector of row values as a column, at a row. -/
theorem column_at {α : Type} (x : S128.Idx → α) (r : Fin 128) :
    shapeCast S128x1 x shapeCasts_S128_S128x1 (ix2 r (0 : Fin 1)) = x (ix1 r) :=
  shapeCast_apply x _ _ _ (by
    rw [Shape.rowMajor_val_one, Shape.rowMajor_val_two]
    show r.val = r.val * 1 + 0
    omega)

/-- A column spread over the slab, at a place. -/
theorem spread_at {α : Type} (x : S128x1.Idx → α) (r : Fin 128) (c : Fin 2048) :
    broadcastTo S128x2048 x broadcasts_S128x1_S128x2048 (ix2 r c) = x (ix2 r (0 : Fin 1)) :=
  broadcastTo_apply x _ _ _ (fun q => match q with | ⟨0, _⟩ => rfl | ⟨1, _⟩ => rfl)

/-- The greatest entry of a slab's row. -/
theorem slabTop_at (w : FVec Ideal S128x2048 .bf16) (r : Fin 128) :
    slabTop w (ix2 r (0 : Fin 1)) = rowTop (row w r) := by
  unfold slabTop
  rw [column_at]
  exact (Ideal.multiReduction_maximumf_single (φ := .bf16) w 0xFF80#16 reduces_S128x2048_S128 (.inr rfl) rfl (ix1 r)).trans
    (top_of_fold _ ninf_bf16 _ _ fun k => congrArg w (lift_slab _ r k))

/-- A comparison "equal" of extended reals. -/
theorem oeq_eq {φ : FTy} (x y : EReal) : FloatOps.cmpf (F := Ideal) (φ := φ) .oeq x y = if x = y then 1#1 else 0#1 := by
  show BitVec.ofBool (decide (x = y)) = _
  by_cases h : x = y <;> simp [h]

/-- Selecting by a comparison "equal". -/
theorem select_oeq {α : Type} {φ : FTy} (x y : EReal) (p q : α) :
    Scalar.select (FloatOps.cmpf (F := Ideal) (φ := φ) .oeq x y) p q = if x = y then p else q := by
  rw [oeq_eq]
  by_cases h : x = y
  · rw [if_pos h, if_pos h]; rfl
  · rw [if_neg h, if_neg h]; rfl

/-- One round on a slab is the round on each row. -/
theorem slabDrop_row (w : FVec Ideal S128x2048 .bf16) (r : Fin 128) : row (slabDrop w) r = rowDrop (row w r) := by
  funext c
  show Scalar.select (FloatOps.cmpf (F := Ideal) (φ := .bf16) .oeq (w (ix2 r c))
    (broadcastTo S128x2048 (slabTop w) broadcasts_S128x1_S128x2048 (ix2 r c))) (Ideal.ofBits .f32 0xFF800000#32) (w (ix2 r c)) = _
  rw [spread_at, slabTop_at, select_oeq, ninf_f32]
  rfl

/-- The eight rounds on a slab are the eight rounds on each row. -/
theorem slabDrop8_row (w : FVec Ideal S128x2048 .bf16) (r : Fin 128) : row (slabDrop8 w) r = rowDrop^[8] (row w r) := by
  unfold slabDrop8
  rw [slabDrop_row, slabDrop_row, slabDrop_row, slabDrop_row, slabDrop_row, slabDrop_row, slabDrop_row, slabDrop_row]
  rfl

variable (v : FVec Ideal S128x2048 .f32) (r : Fin 128) (c : Fin 2048)

/-- The kept weights at a place. -/
theorem slabKept_at : slabKept (F := Ideal) v (ix2 r c) = rowKept (row v r) c := by
  have e : slabDrop8 (F := Ideal) (truncf .bf16 v bitsLt_bf16_f32) (ix2 r c) = rowDrop^[8] (row v r) c :=
    congrFun (slabDrop8_row (truncf (F := Ideal) .bf16 v bitsLt_bf16_f32) r) c
  unfold slabKept rowKept
  rw [← e]
  generalize slabDrop8 (F := Ideal) (truncf .bf16 v bitsLt_bf16_f32) = u
  show Scalar.select (FloatOps.cmpf (F := Ideal) (φ := .bf16) .oeq (u (ix2 r c)) (Ideal.ofBits .bf16 0xFF80#16))
      (v (ix2 r c)) (Ideal.ofBits .f32 0x00000000#32) = _
  rw [select_oeq, ninf_bf16, Ideal.ofBits_zero_f32]

/-- The shift of a row. -/
theorem slabShift_at : slabShift (F := Ideal) v (ix2 r (0 : Fin 1)) = rowShift (row v r) := by
  have e : slabTop (F := Ideal) (truncf .bf16 v bitsLt_bf16_f32) (ix2 r (0 : Fin 1)) = rowTop (row v r) :=
    slabTop_at (truncf (F := Ideal) .bf16 v bitsLt_bf16_f32) r
  unfold slabShift rowShift
  rw [← e]
  generalize slabTop (F := Ideal) (truncf .bf16 v bitsLt_bf16_f32) = u
  show max (u (ix2 r (0 : Fin 1))) (Ideal.ofBits .f32 0x00000000#32) = _
  rw [Ideal.ofBits_zero_f32]

/-- The shifted exponential at a place. -/
theorem slabExp_at : slabExp (F := Ideal) v (ix2 r c) = rowExp (row v r) c := by
  unfold slabExp rowExp
  rw [← slabKept_at, ← slabShift_at]
  generalize slabKept (F := Ideal) v = u
  generalize slabShift (F := Ideal) v = z
  show Ideal.exp (u (ix2 r c) - broadcastTo S128x2048 z broadcasts_S128x1_S128x2048 (ix2 r c)) = _
  rw [spread_at]

/-- The softmax at a place. -/
theorem slabSoft_at : slabSoft (F := Ideal) v (ix2 r c) = rowSoft (row v r) c := by
  have hk := fun k => slabExp_at v r k
  unfold slabSoft rowSoft
  simp only [← hk]
  generalize slabExp (F := Ideal) v = u
  have e : multiReduction (F := Ideal) (φ := .f32) .add [1] S128 u 0x00000000#32 reduces_S128x2048_S128 (.inl rfl) rfl (ix1 r)
      = ∑ k, u (ix2 r k) :=
    (Ideal.multiReduction_add_single (φ := .f32) u 0x00000000#32 reduces_S128x2048_S128 (.inl rfl) rfl (ix1 r)).trans
      (Finset.sum_congr rfl fun k _ => congrArg u (lift_slab _ r k))
  rw [← e]
  generalize multiReduction (F := Ideal) (φ := .f32) .add [1] S128 u 0x00000000#32 reduces_S128x2048_S128 (.inl rfl) rfl = z
  show Ideal.div (u (ix2 r c)) (broadcastTo S128x2048 (shapeCast S128x1 z shapeCasts_S128_S128x1)
    broadcasts_S128x1_S128x2048 (ix2 r c)) = _
  rw [spread_at, column_at]

/-- The slab's product with the projection's copy, at a place. -/
theorem slabOut_at (p : FVec Ideal S2048x2048 .bf16) :
    slabOut (F := Ideal) p v (ix2 r c) = ∑ k : Fin 2048, rowSoft (row v r) k * p (ix2 k c) := by
  have hk := fun k => slabSoft_at v r k
  unfold slabOut
  simp only [← hk]
  generalize slabSoft (F := Ideal) v = u
  have h := Ideal.matmul_plain_apply (M := 128) (K := 2048) (N := 2048) (φ₁ := .bf16) (φ₂ := .bf16) none
    (truncf (F := Ideal) .bf16 u bitsLt_bf16_f32) p (constant S128x2048 .f32 0x00000000#32) r c
  refine Eq.trans (b := _) h ?_
  show Ideal.ofBits .f32 0x00000000#32 + _ = _
  rw [Ideal.ofBits_zero_f32, zero_add]
  rfl

/-- A half's product with the matrix, at a place. -/
theorem halfMul_at (w : FVec Ideal S2048x2048 .bf16) (x : FVec Ideal S512x2048 .f32) (r : Fin 512) (c : Fin 2048) :
    halfMul (F := Ideal) w x (ix2 r c) = ∑ k : Fin 2048, x (ix2 r k) * w (ix2 k c) := by
  have h := Ideal.matmul_plain_apply (M := 512) (K := 2048) (N := 2048) (φ₁ := .bf16) (φ₂ := .bf16) none
    (truncf (F := Ideal) .bf16 x bitsLt_bf16_f32) w (constant S512x2048 .f32 0x00000000#32) r c
  refine (show halfMul (F := Ideal) w x (ix2 r c) = _ from h).trans ?_
  show Ideal.ofBits .f32 0x00000000#32 + _ = _
  rw [Ideal.ofBits_zero_f32, zero_add]
  rfl

end Cert.Own

end
-- ==== Proof.Value.Blocks.lean ====
/- The blocks the two bodies leave, and the arrays the two calls leave, element by element. -/
module

public import proofs.«01_k».proof.Proof.Value.Slab

@[expose] public section

set_option maxRecDepth 8192

noncomputable section

namespace Cert.Own

open Idealize.ShloMosaic Idealize.ShloMosaic.ValueIdx Idealize.ShloMosaic.TcCoe
open Idealize.ShloMosaic.Pipeline (Dat Cfg Window)
open Cert.KernelIdeal Cert.KernelIdeal.Gen Cert.KernelIdeal.Own

/-! ## One block -/

/-- The product of the softmax of a matrix's kept rows and another matrix. -/
def softMul {n : Nat} (x : (⟨2, ![n, 2048]⟩ : Shape).Idx → EReal) (p : S2048x2048.Idx → EReal) :
    (⟨2, ![n, 2048]⟩ : Shape).Idx → EReal :=
  fun y => ∑ k : Fin 2048, rowSoft (row x (y 0)) k * p (ix2 k (y 1))

/-- The product of two matrices. -/
def plainMul {n : Nat} (x : (⟨2, ![n, 2048]⟩ : Shape).Idx → EReal) (w : S2048x2048.Idx → EReal) :
    (⟨2, ![n, 2048]⟩ : Shape).Idx → EReal :=
  fun y => ∑ k : Fin 2048, x (ix2 (y 0) k) * w (ix2 k (y 1))

/-- A place of a band of rows from row `o` on, in the block. -/
theorem band_at {m : Nat} (o : Nat) (h : ∀ a : Fin 2, (![o, 0] : Fin 2 → Nat) a + (![m, 2048] : Fin 2 → Nat) a ≤ S1024x2048.size a)
    (r : Fin m) (c : Fin 2048) (hr : o + r.val < 1024) :
    (Rect.unit (s := S1024x2048) ![o, 0] ![m, 2048] h).emb (ix2 r c) = ix2 ⟨o + r.val, hr⟩ c :=
  funext fun a => Fin.ext (by
    match a with
    | ⟨0, _⟩ => show o + 1 * r.val = o + r.val; omega
    | ⟨1, _⟩ => show 0 + 1 * c.val = c.val; omega)

/-- A slab's stored band is the block's product there. -/
theorem slab_piece (p : FVec Ideal S2048x2048 .bf16) (x : FVec Ideal S1024x2048 .f32) (o : Nat)
    (h : ∀ a : Fin 2, (![o, 0] : Fin 2 → Nat) a + (![128, 2048] : Fin 2 → Nat) a ≤ S1024x2048.size a) (z : S128x2048.Idx) :
    slabOut (F := Ideal) p (View.ld (Val := Elt Ideal) (e' := .f32) x (Rect.unit (s := S1024x2048) ![o, 0] ![128, 2048] h)) z
      = softMul x p ((Rect.unit (s := S1024x2048) ![o, 0] ![128, 2048] h).emb z) := by
  obtain ⟨r, c, rfl⟩ : ∃ (r : Fin 128) (c : Fin 2048), z = ix2 r c := ⟨z 0, z 1, eq_ix2 z⟩
  have ho : o + 128 ≤ 1024 := h 0
  have hr : o + r.val < 1024 := by have := r.isLt; omega
  rw [band_at o h r c hr]
  refine (slabOut_at _ r c p).trans ?_
  have e : row (View.ld (Val := Elt Ideal) (e' := .f32) x (Rect.unit (s := S1024x2048) ![o, 0] ![128, 2048] h)) r
      = row x ⟨o + r.val, hr⟩ := funext fun k => congrArg x (band_at o h r k hr)
  show ∑ k : Fin 2048, rowSoft (row _ r) k * _ = ∑ k : Fin 2048, rowSoft (row x ⟨o + r.val, hr⟩) k * p (ix2 k c)
  rw [← e]

/-- A half's stored band is the block's product there. -/
theorem half_piece (w : FVec Ideal S2048x2048 .bf16) (x : FVec Ideal S1024x2048 .f32) (o : Nat)
    (h : ∀ a : Fin 2, (![o, 0] : Fin 2 → Nat) a + (![512, 2048] : Fin 2 → Nat) a ≤ S1024x2048.size a) (z : S512x2048.Idx) :
    halfMul (F := Ideal) w (View.ld (Val := Elt Ideal) (e' := .f32) x (Rect.unit (s := S1024x2048) ![o, 0] ![512, 2048] h)) z
      = plainMul x w ((Rect.unit (s := S1024x2048) ![o, 0] ![512, 2048] h).emb z) := by
  obtain ⟨r, c, rfl⟩ : ∃ (r : Fin 512) (c : Fin 2048), z = ix2 r c := ⟨z 0, z 1, eq_ix2 z⟩
  have ho : o + 512 ≤ 1024 := h 0
  have hr : o + r.val < 1024 := by have := r.isLt; omega
  rw [band_at o h r c hr]
  refine (halfMul_at w _ r c).trans ?_
  exact Finset.sum_congr rfl fun k _ => congrArg (· * _) (congrArg x (band_at o h r k hr))

/-- Every slab's stored band is the block's product there. -/
theorem block_pieces (p : FVec Ideal S2048x2048 .bf16) (x : FVec Ideal S1024x2048 .f32) :
    ∀ q ∈ blockPieces (F := Ideal) p x, ∀ z : q.1.shape.Idx, q.2 z = softMul x p (q.1.emb z) := by
  unfold blockPieces
  refine List.forall_mem_cons.2 ⟨slab_piece p x 896 inb_S1024x2048_S128x2048_896_0, ?_⟩
  refine List.forall_mem_cons.2 ⟨slab_piece p x 768 inb_S1024x2048_S128x2048_768_0, ?_⟩
  refine List.forall_mem_cons.2 ⟨slab_piece p x 640 inb_S1024x2048_S128x2048_640_0, ?_⟩
  refine List.forall_mem_cons.2 ⟨slab_piece p x 512 inb_S1024x2048_S128x2048_512_0, ?_⟩
  refine List.forall_mem_cons.2 ⟨slab_piece p x 384 inb_S1024x2048_S128x2048_384_0, ?_⟩
  refine List.forall_mem_cons.2 ⟨slab_piece p x 256 inb_S1024x2048_S128x2048_256_0, ?_⟩
  refine List.forall_mem_cons.2 ⟨slab_piece p x 128 inb_S1024x2048_S128x2048_128_0, ?_⟩
  refine List.forall_mem_cons.2 ⟨slab_piece p x 0 inb_S1024x2048_S128x2048_0_0, ?_⟩
  exact fun q hq => absurd hq List.not_mem_nil

/-- The first call's block is the product of the softmax of its kept rows and the projection's copy. -/
theorem blockOut_eq (p : FVec Ideal S2048x2048 .bf16) (x : FVec Ideal S1024x2048 .f32) :
    blockOut (F := Ideal) p x = softMul x p := by
  have hp := block_pieces p x
  have hc := blockCover (F := Ideal) p x
  unfold blockOut
  generalize blockPieces (F := Ideal) p x = L at hp hc
  funext y
  exact View.canon_apply_of_pieces (Val := Elt Ideal) (e := .bf16) (softMul x p) L hp y (hc y)

/-- The second call's block is the product of its rows and the matrix. -/
theorem mulOut_eq (w : FVec Ideal S2048x2048 .bf16) (x : FVec Ideal S1024x2048 .f32) :
    mulOut (F := Ideal) w x = plainMul x w := by
  funext y
  refine View.canon_apply_of_pieces (Val := Elt Ideal) (e := .f32) (plainMul x w) (mulPieces w x) ?_ y (mulCover _ _ y)
  intro q hq
  unfold mulPieces at hq
  simp only [List.mem_cons, List.not_mem_nil, or_false] at hq
  rcases hq with rfl | rfl
  · exact half_piece w x 512 inb_S1024x2048_S512x2048_512_0
  · exact half_piece w x 0 inb_S1024x2048_S512x2048_0_0

/-! ## The windows' places -/

/-- The first call's row windows stand at their point's block of rows; -/
theorem index0 : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0))

/-- so do the second call's. -/
theorem index1 : ∀ t : Fin cfg1.N, (win1_0.index t 0 = t.val ∧ win1_0.index t 1 = 0) ∧ (win1_1.index t 0 = 0 ∧ win1_1.index t 1 = 0)
    ∧ (win1_2.index t 0 = t.val ∧ win1_2.index t 1 = 0) :=
  (by decide +kernel : ∀ t : Fin grid1.N, (win1_0.index t 0 = t.val ∧ win1_0.index t 1 = 0) ∧ (win1_1.index t 0 = 0 ∧ win1_1.index t 1 = 0)
    ∧ (win1_2.index t 0 = t.val ∧ win1_2.index t 1 = 0))

variable (V : (c : Dev nD) → (b : Ref sig .tc) → Buf (Elt Ideal) ((c : Thread nD τ).loc b)) (c : Dev nD)

theorem row0_lt (t : Fin cfg0.N) (r : Fin 1024) : t.val * 1024 + r.val < 2048 := by
  have h : t.val < 2 := Nat.lt_of_lt_of_eq t.isLt N_0
  have := r.isLt; omega
theorem row1_lt (t : Fin cfg1.N) (r : Fin 1024) : t.val * 1024 + r.val < 16384 := by
  have h : t.val < 16 := Nat.lt_of_lt_of_eq t.isLt N_1
  have := r.isLt; omega

/-- The places of the first call's blocks in their arrays. -/
theorem place0_0 (t : Fin cfg0.N) (r : Fin 1024) (k : Fin 2048) :
    ((cfg0.win 0).blk t).view.emb (ix2 r k) = (ix2 ⟨t.val * 1024 + r.val, row0_lt t r⟩ k : S2048x2048.Idx) :=
  funext fun a => Fin.ext (by
    match a with
    | ⟨0, _⟩ => exact (Window.rect_emb_val win0_0 t (ix2 r k) 0).trans (by rw [(index0 t).1.1]; rfl)
    | ⟨1, _⟩ => exact Window.rect_emb_val_of_index_zero win0_0 t 1 (index0 t).1.2 (ix2 r k))
theorem place0_1 (t : Fin cfg0.N) (r k : Fin 2048) :
    ((cfg0.win 1).blk t).view.emb (ix2 r k) = (ix2 r k : S2048x2048.Idx) :=
  funext fun a => Fin.ext (by
    match a with
    | ⟨0, _⟩ => exact Window.rect_emb_val_of_index_zero win0_1 t 0 (index0 t).2.1.1 (ix2 r k)
    | ⟨1, _⟩ => exact Window.rect_emb_val_of_index_zero win0_1 t 1 (index0 t).2.1.2 (ix2 r k))
theorem place0_2 (t : Fin cfg0.N) (r : Fin 1024) (k : Fin 2048) :
    ((cfg0.win 2).blk t).view.emb (ix2 r k) = (ix2 ⟨t.val * 1024 + r.val, row0_lt t r⟩ k : S2048x2048.Idx) :=
  funext fun a => Fin.ext (by
    match a with
    | ⟨0, _⟩ => exact (Window.rect_emb_val win0_2 t (ix2 r k) 0).trans (by rw [(index0 t).2.2.1]; rfl)
    | ⟨1, _⟩ => exact Window.rect_emb_val_of_index_zero win0_2 t 1 (index0 t).2.2.2 (ix2 r k))

/-- The places of the second call's blocks in their arrays. -/
theorem place1_0 (t : Fin cfg1.N) (r : Fin 1024) (k : Fin 2048) :
    ((cfg1.win 0).blk t).view.emb (ix2 r k) = (ix2 ⟨t.val * 1024 + r.val, row1_lt t r⟩ k : S16384x2048.Idx) :=
  funext fun a => Fin.ext (by
    match a with
    | ⟨0, _⟩ => exact (Window.rect_emb_val win1_0 t (ix2 r k) 0).trans (by rw [(index1 t).1.1]; rfl)
    | ⟨1, _⟩ => exact Window.rect_emb_val_of_index_zero win1_0 t 1 (index1 t).1.2 (ix2 r k))
theorem place1_1 (t : Fin cfg1.N) (r k : Fin 2048) :
    ((cfg1.win 1).blk t).view.emb (ix2 r k) = (ix2 r k : S2048x2048.Idx) :=
  funext fun a => Fin.ext (by
    match a with
    | ⟨0, _⟩ => exact Window.rect_emb_val_of_index_zero win1_1 t 0 (index1 t).2.1.1 (ix2 r k)
    | ⟨1, _⟩ => exact Window.rect_emb_val_of_index_zero win1_1 t 1 (index1 t).2.1.2 (ix2 r k))
theorem place1_2 (t : Fin cfg1.N) (r : Fin 1024) (k : Fin 2048) :
    ((cfg1.win 2).blk t).view.emb (ix2 r k) = (ix2 ⟨t.val * 1024 + r.val, row1_lt t r⟩ k : S16384x2048.Idx) :=
  funext fun a => Fin.ext (by
    match a with
    | ⟨0, _⟩ => exact (Window.rect_emb_val win1_2 t (ix2 r k) 0).trans (by rw [(index1 t).2.2.1]; rfl)
    | ⟨1, _⟩ => exact Window.rect_emb_val_of_index_zero win1_2 t 1 (index1 t).2.2.2 (ix2 r k))

/-! ## The arrays -/

/-- The array the first call leaves: the product of the softmax of the kept weights and the projection. -/
theorem array0 : (datA V c).arrAt 2 cfg0.N = softMul (n := 2048) (V c main_arg1) (V c main_arg2) := by
  refine (datA V c).arrAt_eq_of_cover 2 (softMul (n := 2048) (V c main_arg1) (V c main_arg2)) (fun t _ => ?_) (fun i => ?_)
  · have ep : ∀ r k : Fin 2048, projCopy (projAt V c) (ix2 r k) = V c main_arg2 (ix2 r k) := fun r k =>
      congrArg (V c main_arg2) (place0_1 t0_0 r k)
    have ex : ∀ (r : Fin 1024) (k : Fin 2048), blkA V c 0 t (ix2 r k)
        = V c main_arg1 (ix2 ⟨t.val * 1024 + r.val, row0_lt t r⟩ k) := fun r k => congrArg (V c main_arg1) (place0_0 t r k)
    refine (show (datA V c).flushed 2 t = (datA V c).after 2 t from rfl).trans ?_
    rw [datA_after2]
    generalize hp : projCopy (projAt V c) = P at ep
    generalize hx : blkA V c 0 t = X at ex
    refine (blockOut_eq P X).trans (funext fun y => ?_)
    obtain ⟨r, k, rfl⟩ : ∃ (r : Fin 1024) (k : Fin 2048), y = ix2 r k := ⟨y 0, y 1, eq_ix2 y⟩
    refine Eq.trans ?_ (congrArg (softMul (n := 2048) (V c main_arg1) (V c main_arg2)) (place0_2 t r k)).symm
    have er : row X r = row (V c main_arg1) ⟨t.val * 1024 + r.val, row0_lt t r⟩ := funext fun j => ex r j
    show ∑ j : Fin 2048, rowSoft (row X r) j * P (ix2 j k) = ∑ j : Fin 2048,
      rowSoft (row (V c main_arg1) ⟨t.val * 1024 + r.val, row0_lt t r⟩) j * V c main_arg2 (ix2 j k)
    rw [er]
    exact Finset.sum_congr rfl fun j _ => congrArg _ (ep j k)
  · obtain ⟨a, k, rfl⟩ : ∃ a k : Fin 2048, i = ix2 a k := ⟨i 0, i 1, eq_ix2 i⟩
    refine ⟨⟨a.val / 1024, by rw [show cfg0.N = 2 from N_0]; have := a.isLt; omega⟩, flush0_2 _, ?_⟩
    refine Finset.mem_map.mpr ⟨ix2 (⟨a.val % 1024, Nat.mod_lt _ (by omega)⟩ : Fin 1024) k, Finset.mem_univ _, ?_⟩
    refine (place0_2 _ _ k).trans ?_
    refine congrArg (fun q => (ix2 q k : S2048x2048.Idx)) (Fin.ext ?_)
    show a.val / 1024 * 1024 + a.val % 1024 = a.val
    omega

/-- The array the second call leaves: the product of the rows and the matrix. -/
theorem array1 : (datB V c).arrAt 2 cfg1.N = plainMul (n := 16384) (V c main_v1) (V c main_v0) := by
  refine (datB V c).arrAt_eq_of_cover 2 (plainMul (n := 16384) (V c main_v1) (V c main_v0)) (fun t _ => ?_) (fun i => ?_)
  · have ep : ∀ r k : Fin 2048, blkB V c 1 t (ix2 r k) = V c main_v0 (ix2 r k) := fun r k =>
      congrArg (V c main_v0) (place1_1 t r k)
    have ex : ∀ (r : Fin 1024) (k : Fin 2048), blkB V c 0 t (ix2 r k)
        = V c main_v1 (ix2 ⟨t.val * 1024 + r.val, row1_lt t r⟩ k) := fun r k => congrArg (V c main_v1) (place1_0 t r k)
    refine (show (datB V c).flushed 2 t = (datB V c).after 2 t from rfl).trans ?_
    rw [datB_after2]
    generalize hp : blkB V c 1 t = P at ep
    generalize hx : blkB V c 0 t = X at ex
    refine (mulOut_eq P X).trans (funext fun y => ?_)
    obtain ⟨r, k, rfl⟩ : ∃ (r : Fin 1024) (k : Fin 2048), y = ix2 r k := ⟨y 0, y 1, eq_ix2 y⟩
    refine Eq.trans ?_ (congrArg (plainMul (n := 16384) (V c main_v1) (V c main_v0)) (place1_2 t r k)).symm
    exact Finset.sum_congr rfl fun j _ => congrArg₂ (· * ·) (ex r j) (ep j k)
  · obtain ⟨a, k, rfl⟩ : ∃ (a : Fin 16384) (k : Fin 2048), i = ix2 a k := ⟨i 0, i 1, eq_ix2 i⟩
    refine ⟨⟨a.val / 1024, by rw [show cfg1.N = 16 from N_1]; have := a.isLt; omega⟩, flush1_2 _, ?_⟩
    refine Finset.mem_map.mpr ⟨ix2 (⟨a.val % 1024, Nat.mod_lt _ (by omega)⟩ : Fin 1024) k, Finset.mem_univ _, ?_⟩
    refine (place1_2 _ _ k).trans ?_
    refine congrArg (fun q => (ix2 q k : S16384x2048.Idx)) (Fin.ext ?_)
    show a.val / 1024 * 1024 + a.val % 1024 = a.val
    omega

end Cert.Own

end
-- ==== Proof.Value.Reference.lean ====
/- The reference's result at an index: the two products of `x`, the rows' softmax and the projection. -/
module

public import proofs.«01_k».proof.Proof.Gen.ReferenceIdeal.Read
public import proofs.«01_k».proof.Proof.Math.Given
public import Idealize.ShloMosaic.Lib.Routing.OpsPair
public import Idealize.ShloMosaic.Lib.Routing.OpsSet
public import Idealize.ShloMosaic.Lib.KernelVsHost
public import Idealize.ShloMosaic.Lib.IdealHost

@[expose] public section

noncomputable section

namespace Cert.Own

open Idealize.ShloMosaic Idealize.ShloMosaic.ValueIdx Idealize.ShloMosaic.Routing
open Cert.ReferenceIdeal Cert.ReferenceIdeal.Gen Cert.ReferenceIdeal.Read

/-- Row `r` of a matrix. -/
abbrev rowAt {n m : Nat} (a : (⟨2, ![n, m]⟩ : Shape).Idx → EReal) (r : Fin n) : Fin m → EReal := fun k => a (ix2 r k)

variable (a : FVec Ideal S2048x2048 .f32)

/-- The row word of an update is its row. -/
theorem word_row (r : Fin 2048) (b : Fin 8) :
    val_main_v16 (F := Ideal) a (ix3 r b (0 : Fin 2)) = BitVec.ofNat 32 r.val := by
  unfold val_main_v16
  rw [concatenate_pair_apply_left (s₁ := S2048x8x1) (s₂ := S2048x8x1) (2 : Fin S2048x8x2.rank) _ _ _ (ix3 r b (0 : Fin 2)) rfl (ix3 r b (0 : Fin 1))
    (fun q => match q with | ⟨0, _⟩ => rfl | ⟨1, _⟩ => rfl | ⟨2, _⟩ => rfl)]
  rw [val_main_v14_apply, val_main_v13_apply, val_main_v7_apply, val_main_v4_apply, val_main_v3_apply, val_main_c_apply,
    val_main_v1_apply, val_main_v0_apply]
  exact wrap_of_lt _ _ (by
    have := r.isLt
    rw [BitVec.toNat_ofNat]
    show r.val % 2 ^ 32 < 2 ^ 31
    omega)

/-- The column word of an update is the place its rank lists. -/
theorem word_col (r : Fin 2048) (b : Fin 8) :
    val_main_v16 (F := Ideal) a (ix3 r b (1 : Fin 2))
      = BitVec.ofNat 32 (listOrder (rowAt a r) ⟨b.val, by omega⟩).val := by
  have hi : val_main_indices (F := Ideal) a (ix2 r b)
      = BitVec.ofNat 32 (listOrder (rowAt a r) ⟨b.val, by omega⟩).val :=
    topK_index (n := 2048) (m := 2048) (K := 8) (by omega) a sliceFits_S2048x2048_S2048x8 r b
  unfold val_main_v16
  rw [concatenate_pair_apply_right (s₁ := S2048x8x1) (s₂ := S2048x8x1) (2 : Fin S2048x8x2.rank) _ _ _ (ix3 r b (1 : Fin 2)) rfl rfl (ix3 r b (0 : Fin 1))
    (fun q hq => match q, hq with | ⟨0, _⟩, _ => rfl | ⟨1, _⟩, _ => rfl | ⟨2, _⟩, hq => absurd rfl hq) rfl]
  rw [val_main_v15_apply]
  have e : idx_main_v15 (ix3 r b (0 : Fin 1)) = ix2 r b := by
    funext q; match q with | ⟨0, _⟩ => rfl | ⟨1, _⟩ => rfl
  rw [e, val_main_v12_apply, val_main_v9_apply, val_main_v8_apply, val_main_c_1_apply, hi]
  exact wrap_of_lt _ _ (by
    have := (listOrder (rowAt a r) ⟨b.val, by omega⟩).isLt
    rw [BitVec.toNat_ofNat]
    show _ % 2 ^ 32 < 2 ^ 31
    omega)

/-- Which update lands where: rank `b` of row `r'` lands at the place it lists in row `r'`. -/
theorem lands_iff (r' : Fin 2048) (b : Fin 8) (r c : Fin 2048) :
    scatter_S2048x2048_S2048x8x2_S2048x8_n_01_01_2.resultIdx? (ix2 r' b) (val_main_v16 (F := Ideal) a) = some (ix2 r c)
      ↔ r' = r ∧ listOrder (rowAt a r') ⟨b.val, by omega⟩ = c := by
  rw [scatter_lands2 _ rfl rfl rfl, word_row, word_col,
    StableHlo.Predicate.toInt_ofNat_small _ (by have := r'.isLt; omega),
    StableHlo.Predicate.toInt_ofNat_small _ (by have := (listOrder (rowAt a r') ⟨b.val, by omega⟩).isLt; omega)]
  rw [Fin.ext_iff, Fin.ext_iff]
  omega

/-- The mask at the place a rank lists: one for the first eight ranks, zero for the others. -/
theorem mask_at (r : Fin 2048) (h : Ranked (rowAt a r) (listOrder (rowAt a r))) (j : Fin 2048) :
    val_main_v18 (F := Ideal) a (ix2 r (listOrder (rowAt a r) j)) = if j.val < 8 then 1 else 0 := by
  unfold val_main_v18
  split
  · next hj =>
    refine scatter_set_hit _ _ _ _ _ _ (fun k _ => ?_) (ix2 r ⟨j.val, hj⟩) ((lands_iff a r ⟨j.val, hj⟩ r _).2 ⟨rfl, rfl⟩)
    rw [val_main_v17_apply, val_main_cst_3_apply]
    exact Ideal.ofBits_one_f32
  · next hj =>
    rw [scatter_set_miss]
    · rw [val_main_v2_apply, val_main_cst_apply]
      exact Ideal.ofBits_zero_f32
    · intro k hk
      obtain ⟨r', b, rfl⟩ : ∃ (r' : Fin 2048) (b : Fin 8), k = ix2 r' b := ⟨k 0, k 1, eq_ix2 k⟩
      obtain ⟨rfl, e⟩ := (lands_iff a r' b r _).1 hk
      have := congrArg Fin.val (h.inj e)
      have hb := b.isLt
      simp only at this
      omega

/-- The masked weights are the kept row. -/
theorem masked_at (r : Fin 2048) (h : Ranked (rowAt a r) (listOrder (rowAt a r))) (c : Fin 2048) :
    val_main_v19 (F := Ideal) a (ix2 r c) = rowKept (rowAt a r) c := by
  obtain ⟨j, rfl⟩ := h.surj c
  rw [val_main_v19_apply, mask_at a r h, h.kept j, Ideal.mulf_def]
  split
  · exact mul_one _
  · exact mul_zero _

/-- The index a row reduction reads at a coordinate of the dropped axis. -/
theorem lift_row (h : S2048x2048.Reduces [1] S2048) (r : Fin 2048) (k : Fin 2048) : h.lift (ix1 r) k = ix2 r k :=
  funext fun q => Fin.ext (by match q with | ⟨0, _⟩ => rfl | ⟨1, _⟩ => rfl)

theorem rowReduces : S2048x2048.Reduces [1] S2048 := by decide

/-- A fold of `max` from minus infinity is the greatest entry. -/
theorem fold_top {n : Nat} (z : EReal) (hz : z = ⊥) (f g : Fin n → EReal) (h : ∀ k, f k = g k) :
    Finset.univ.fold max z f = rowTop g := by
  subst hz
  rw [show f = g from funext h]
  rfl

/-- The greatest masked weight of a row. -/
theorem top_at (r : Fin 2048) :
    val_main_v20 (F := Ideal) a (ix1 r) = rowTop (rowAt (val_main_v19 (F := Ideal) a) r) := by
  unfold val_main_v20 val_main_cst_4
  generalize val_main_v19 (F := Ideal) a = y
  refine (congrFun (hostReduce_maximumf_eq_multiReduction (F := Ideal) (φ := .f32) y 0xFF800000#32
    reducesTo_S2048x2048_S2048_d1 h_S_ rowReduces (.inl rfl) rfl) (ix1 r)).trans
    ((Ideal.multiReduction_maximumf_single (φ := .f32) y 0xFF800000#32 rowReduces (.inl rfl) rfl (ix1 r)).trans ?_)
  exact fold_top _ ninf_f32 _ _ fun k => congrArg y (lift_row rowReduces r k)

/-- What the softmax subtracts in a row. -/
theorem shift_at (r : Fin 2048) (h : Ranked (rowAt a r) (listOrder (rowAt a r))) :
    val_main_v22 (F := Ideal) a (ix1 r) = rowShift (rowAt a r) := by
  rw [val_main_v22_apply, top_at, val_main_v21_apply, val_main_cst_5_apply, h.shift, Ideal.maximumf_def]
  have e : rowAt (val_main_v19 (F := Ideal) a) r = rowKept (rowAt a r) := funext fun c => masked_at a r h c
  rw [e]
  show max (Ideal.ofBits .f32 0xFF800000#32) _ = _
  rw [ninf_f32]
  exact max_eq_right bot_le

/-- The shifted exponential at a place. -/
theorem exp_at (r : Fin 2048) (h : Ranked (rowAt a r) (listOrder (rowAt a r))) (c : Fin 2048) :
    val_main_v26 (F := Ideal) a (ix2 r c) = rowExp (rowAt a r) c := by
  have e : idx_main_v23 (idx_main_v24 (ix2 r c)) = ix1 r := by
    funext q; match q with | ⟨0, _⟩ => rfl
  rw [val_main_v26_apply, val_main_v25_apply, masked_at a r h, val_main_v24_apply, val_main_v23_apply, e, shift_at a r h]
  rfl

/-- The softmax at a place. -/
theorem soft_at (r : Fin 2048) (h : Ranked (rowAt a r) (listOrder (rowAt a r))) (c : Fin 2048) :
    val_main_v30 (F := Ideal) a (ix2 r c) = rowSoft (rowAt a r) c := by
  have e : idx_main_v28 (idx_main_v29 (ix2 r c)) = ix1 r := by
    funext q; match q with | ⟨0, _⟩ => rfl
  rw [val_main_v30_apply, exp_at a r h, val_main_v29_apply, val_main_v28_apply, e, val_main_v27_apply, val_main_cst_6_apply]
  have es : ∑ k : Fin 2048, val_main_v26 (F := Ideal) a (idx_main_v27 (ix1 r) k) = ∑ k, rowExp (rowAt a r) k :=
    Finset.sum_congr rfl fun k _ => by
      rw [← exp_at a r h k]
      exact congrArg _ (funext fun q => match q with | ⟨0, _⟩ => rfl | ⟨1, _⟩ => rfl)
  rw [es]
  show Ideal.div _ (Ideal.ofBits .f32 0x00000000#32 + _) = _
  rw [Ideal.ofBits_zero_f32, zero_add]
  rfl

/-- The reference's result at an index, associated the other way: `x` times the product of the softmax and the projection. -/
theorem reference_at (x : FVec Ideal S4x4096x2048 .f32) (p : FVec Ideal S2048x2048 .f32) (h : Given x a p)
    (b : Fin 4) (s : Fin 4096) (c : Fin 2048) :
    val_main_v32 (F := Ideal) x a p (ix3 b s c)
      = ∑ i : Fin 2048, x (ix3 b s i) * ∑ k : Fin 2048, rowSoft (rowAt a i) k * p (ix2 k c) := by
  have hx := fun i : Fin 2048 => real_of_finite (h.left (ix3 b s i))
  have hp := fun k : Fin 2048 => real_of_finite (h.right (ix2 k c))
  have hs := fun i : Fin 2048 => (h.ranked i).soft_real
  choose X hX using hx
  choose P hP using hp
  choose S hS using hs
  have e : ∀ k : Fin 2048, val_main_v31 (F := Ideal) x a (ix3 b s k) = ∑ i : Fin 2048, x (ix3 b s i) * rowSoft (rowAt a i) k :=
    fun k => by
      rw [val_main_v31_apply]
      refine Finset.sum_congr rfl fun i _ => ?_
      rw [← soft_at a i (h.ranked i) k]
      exact congrArg₂ (· * ·) (congrArg x (funext fun q => match q with | ⟨0, _⟩ => rfl | ⟨1, _⟩ => rfl | ⟨2, _⟩ => rfl))
        (congrArg _ (funext fun q => match q with | ⟨0, _⟩ => rfl | ⟨1, _⟩ => rfl))
  rw [val_main_v32_apply]
  calc _ = ∑ k : Fin 2048, (∑ i : Fin 2048, (X i : EReal) * (S i k : EReal)) * (P k : EReal) := by
        refine Finset.sum_congr rfl fun k _ => ?_
        refine congrArg₂ (· * ·) ?_ ?_
        · refine (congrArg _ (funext fun q => match q with | ⟨0, _⟩ => rfl | ⟨1, _⟩ => rfl | ⟨2, _⟩ => rfl)).trans ((e k).trans ?_)
          exact Finset.sum_congr rfl fun i _ => by rw [hX, hS]
        · have ek : ridx_main_v32 (ix3 b s c) k = ix2 k c := funext fun q => match q with | ⟨0, _⟩ => rfl | ⟨1, _⟩ => rfl
          rw [ek]
          exact hP k
    _ = _ := sum_swap X S P
    _ = _ := Finset.sum_congr rfl fun i _ => by
        rw [hX]
        exact congrArg _ (Finset.sum_congr rfl fun k _ => by rw [hS, hP])

end Cert.Own

end
-- ==== Proof.Value.Result.lean ====
/- The kernel's result array, and its equality with the reference's. -/
module

public import proofs.«01_k».proof.Proof.Value.Blocks
public import proofs.«01_k».proof.Proof.Value.Reference

@[expose] public section

set_option maxRecDepth 8192

noncomputable section

namespace Cert.Own

open Idealize.ShloMosaic Idealize.ShloMosaic.ValueIdx Idealize.ShloMosaic.TcCoe
open Cert.KernelIdeal Cert.KernelIdeal.Gen Cert.KernelIdeal.Own

/-- The batch and sequence axes flattened, at a place. -/
theorem flat_at {α : Type} (x : S4x4096x2048.Idx → α) (b : Fin 4) (s : Fin 4096) (k : Fin 2048)
    (h : b.val * 4096 + s.val < 16384) :
    shapeCast S16384x2048 x shapeCasts_S4x4096x2048_S16384x2048 (ix2 ⟨b.val * 4096 + s.val, h⟩ k) = x (ix3 b s k) :=
  shapeCast_apply x _ _ _ (by
    rw [Shape.rowMajor_val_three, Shape.rowMajor_val_two]
    rfl)

/-- The rows split into batch and sequence axes, at a place. -/
theorem split_at {α : Type} (x : S16384x2048.Idx → α) (b : Fin 4) (s : Fin 4096) (k : Fin 2048)
    (h : b.val * 4096 + s.val < 16384) :
    shapeCast S4x4096x2048 x shapeCasts_S16384x2048_S4x4096x2048 (ix3 b s k) = x (ix2 ⟨b.val * 4096 + s.val, h⟩ k) :=
  shapeCast_apply x _ _ _ (by
    rw [Shape.rowMajor_val_three, Shape.rowMajor_val_two]
    rfl)

variable (m : (ℓ : Loc nD τ sig) → Buf (Elt Ideal) ℓ) (ρ : Dev nD → PrngReg) (c : Dev nD)

/-- What the second call reads as its matrix is what the first call left. -/
theorem matrix_eq : B2 m ρ c (Proc.devRef .tc main_v0)
    = softMul (n := 2048) (m ((c : Thread nD τ).loc main_arg1)) (m ((c : Thread nD τ).loc main_arg2)) :=
  (B2_of m ρ c main_v0 (by decide)).trans ((B1_arr m ρ c 2).trans (array0 (C0 m ρ) c))

/-- What the second call reads as its rows is `x` flattened. -/
theorem rows_eq : B2 m ρ c (Proc.devRef .tc main_v1)
    = shapeCast S16384x2048 (m ((c : Thread nD τ).loc main_arg0)) shapeCasts_S4x4096x2048_S16384x2048 := by
  have e : B2 m ρ c (Proc.devRef .tc main_v1)
      = shapeCast S16384x2048 (B1 m ρ c (Proc.devRef .tc main_arg0)) shapeCasts_S4x4096x2048_S16384x2048 := by
    after_results_simp <;> rfl
  rw [e, B1_args m ρ c main_arg0 (by decide)]

/-- The kernel's result is the second call's array with its rows split. -/
theorem result_eq : B4 m ρ c (Proc.devRef .tc main_v3)
    = shapeCast S4x4096x2048 (plainMul (n := 16384)
        (shapeCast S16384x2048 (m ((c : Thread nD τ).loc main_arg0)) shapeCasts_S4x4096x2048_S16384x2048)
        (softMul (n := 2048) (m ((c : Thread nD τ).loc main_arg1)) (m ((c : Thread nD τ).loc main_arg2))))
      shapeCasts_S16384x2048_S4x4096x2048 := by
  have e : B4 m ρ c (Proc.devRef .tc main_v3)
      = shapeCast S4x4096x2048 (B3 m ρ c (Proc.devRef .tc main_v2)) shapeCasts_S16384x2048_S4x4096x2048 := by
    after_results_simp <;> rfl
  rw [e, ← rows_eq m ρ c, ← matrix_eq m ρ c]
  exact congrArg (fun z => shapeCast S4x4096x2048 z shapeCasts_S16384x2048_S4x4096x2048)
    ((B3_arr m ρ c 2).trans (array1 (C2 m ρ) c))

/-- The kernel's formula, of arguments that meet the precondition, is the reference's value. -/
theorem formula_eq (x : FVec Ideal S4x4096x2048 .f32) (a p : FVec Ideal S2048x2048 .f32) (h : Given x a p) :
    shapeCast S4x4096x2048 (plainMul (n := 16384) (shapeCast S16384x2048 x shapeCasts_S4x4096x2048_S16384x2048)
        (softMul (n := 2048) a p)) shapeCasts_S16384x2048_S4x4096x2048
      = Cert.ReferenceIdeal.Read.val_main_v32 (F := Ideal) x a p := by
  funext i
  obtain ⟨b, s, k, rfl⟩ : ∃ (b : Fin 4) (s : Fin 4096) (k : Fin 2048), i = ix3 b s k := ⟨i 0, i 1, i 2, eq_ix3 i⟩
  have hr : b.val * 4096 + s.val < 16384 := by have := b.isLt; have := s.isLt; omega
  rw [reference_at a x p h b s k, split_at _ b s k hr]
  exact Finset.sum_congr rfl fun j _ => congrArg (· * _) (flat_at x b s j hr)

/-- The kernel's result, from a memory whose arguments meet the precondition, is the reference's value. -/
theorem result_reference (h : Given (m ((c : Thread nD τ).loc main_arg0)) (m ((c : Thread nD τ).loc main_arg1))
      (m ((c : Thread nD τ).loc main_arg2))) :
    B4 m ρ c (Proc.devRef .tc main_v3) = Cert.ReferenceIdeal.Read.val_main_v32 (F := Ideal)
      (m ((c : Thread nD τ).loc main_arg0)) (m ((c : Thread nD τ).loc main_arg1)) (m ((c : Thread nD τ).loc main_arg2)) :=
  (result_eq m ρ c).trans (formula_eq _ _ _ h)

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_separated_finite
public import proofs.«01_k».proof.Proof.Gen.ReferenceIdeal.Read
public import proofs.«01_k».proof.Proof.Kernel.Launch
public import proofs.«01_k».proof.Proof.KernelIdeal.Launch
public import proofs.«01_k».proof.Proof.Value.Result
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference terminates, keeps its arguments and has no counter to leave changed. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems rfl r.2⟩) (Cert.ReferenceIdeal.Value.run m g)

/-- From arguments that meet the precondition the kernel and the reference end with equal results. -/
theorem equal_results : Cert.algebraic_KernelIdeal_ReferenceIdeal_pre_separated_finite := by
  intro m g m' g' hpre hargs
  refine ⟨fun c => Cert.KernelIdeal.Own.B4 m g c (Proc.devRef .tc Cert.KernelIdeal.main_v3), ?_, ?_⟩
  · exact (θ_run _ _ _).mono (fun r h c => ⟨h.2 c, h.1.1 c⟩)
      (θ_run_and (Cert.KernelIdeal.Own.frame_all m g) (Cert.KernelIdeal.Own.result_all m g))
  · refine (θ_run _ _ _).mono (fun r h c => ⟨(h c).1.trans ?_, (h c).2⟩) (Cert.ReferenceIdeal.Value.run m' g')
    obtain ⟨e0, e1, e2⟩ := hargs c
    rw [Cert.ReferenceIdeal.Read.val_main_v32_eq, e0, e1, e2]
    exact (Cert.Own.result_reference m g c (Cert.Own.given_of_pre _ _ _ (hpre c))).symm

/-- Every claim of the certificate. -/
theorem claim : Cert.Claim :=
  ⟨Cert.Kernel.Gen.facts, Cert.KernelIdeal.Gen.facts, Cert.ReferenceIdeal.Gen.facts, Cert.Pre_separated_finite.Gen.facts,
    fun m g _ => Cert.Kernel.Own.frame_all m g,
    fun m g _ => Cert.KernelIdeal.Own.frame_all m g,
    fun m g _ => Cert.KernelIdeal.Own.frame_all m g,
    fun m g _ => reference_frame m g,
    fun m g _ => reference_frame m g,
    trivial,
    equal_results⟩

end Cert.Proof

end
